-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x512 : Shape := ⟨3, ![2, 128, 512]⟩
abbrev S512x64 : Shape := ⟨2, ![512, 64]⟩
abbrev S64 : Shape := ⟨1, ![64]⟩
abbrev S512x512 : Shape := ⟨2, ![512, 512]⟩
abbrev S512 : Shape := ⟨1, ![512]⟩
abbrev S512x32 : Shape := ⟨2, ![512, 32]⟩
abbrev S32 : Shape := ⟨1, ![32]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512x32 .f32) (main_arg6 : FVec F S32 .f32) (main_arg7 : FVec F S512x512 .f32) (main_arg8 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x32 .f32 := Host.absf main_arg5
  let main_cst_8 : FVec F S_ .f32 := constant S_ .f32 0x7F800000#32
  let main_v25 : FVec F S512x32 .f32 := broadcastInDim S512x32 ![] bcast_S_S512x32 main_cst_8
  let main_v26 : IVec S512x32 1 := cmpf .olt main_v24 main_v25
  let main_c_9 : IVec S_ 1 := constantI S_ 1 1#1
  let main_v27 : IVec S_ 1 := (fun x v => Host.reduce IntOp.andi x v reducesTo_S512x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S2x128x512 .f32) (main_arg1 : FVec F S512x64 .f32) (main_arg2 : FVec F S64 .f32) (main_arg3 : FVec F S512x512 .f32) (main_arg4 : FVec F S512 .f32) (main_arg5 : FVec F S512x32 .f32) (main_arg6 : FVec F S32 .f32) (main_arg7 : FVec F S512x512 .f32) (main_arg8 : FVec F S512 .f32) (main_arg9 : FVec F S512x512 .f32) (main_arg10 : FVec F S512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S2x128x512 : Shape := ⟨3, ![2, 128, 512]⟩
abbrev S512x64 : Shape := ⟨2, ![512, 64]⟩
abbrev S64 : Shape := ⟨1, ![64]⟩
abbrev S512x512 : Shape := ⟨2, ![512, 512]⟩
abbrev S512 : Shape := ⟨1, ![512]⟩
abbrev S512x32 : Shape := ⟨2, ![512, 32]⟩
abbrev S32 : Shape := ⟨1, ![32]⟩
abbrev S64x1 : Shape := ⟨2, ![64, 1]⟩
abbrev S1x512 : Shape := ⟨2, ![1, 512]⟩
abbrev S1x32 : Shape := ⟨2, ![1, 32]⟩
abbrev S_ : Shape := ⟨0, ![]⟩
abbrev S256x512 : Shape := ⟨2, ![256, 512]⟩
abbrev S64x256 : Shape := ⟨2, ![64, 256]⟩
abbrev S256x32 : Shape := ⟨2, ![256, 32]⟩
abbrev S256 : Shape := ⟨1, ![256]⟩
abbrev S256x1 : Shape := ⟨2, ![256, 1]⟩
abbrev S1x256 : Shape := ⟨2, ![1, 256]⟩
abbrev S128x128 : Shape := ⟨2, ![128, 128]⟩
abbrev S128x512 : Shape := ⟨2, ![128, 512]⟩
abbrev S128x32 : Shape := ⟨2, ![128, 32]⟩
abbrev S64x128 : Shape := ⟨2, ![64, 128]⟩
abbrev S64x1024 : Shape := ⟨2, ![64, 1024]⟩
abbrev S1024x128 : Shape := ⟨2, ![1024, 128]⟩
abbrev S128x256 : Shape := ⟨2, ![128, 256]⟩
abbrev S128 : Shape := ⟨1, ![128]⟩
abbrev S128x1 : Shape := ⟨2, ![128, 1]⟩

abbrev nBuf : Space → Nat
  | .hbm => 17
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x64, .f32⟩
  | .hbm, ⟨2, _⟩ => ⟨S64, .f32⟩
  | .hbm, ⟨3, _⟩ => ⟨S512x512, .f32⟩
  | .hbm, ⟨4, _⟩ => ⟨S512, .f32⟩
  | .hbm, ⟨5, _⟩ => ⟨S512x32, .f32⟩
  | .hbm, ⟨6, _⟩ => ⟨S32, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S64x1, .f32⟩
  | .hbm, ⟨12, _⟩ => ⟨S1x512, .f32⟩
  | .hbm, ⟨13, _⟩ => ⟨S1x32, .f32⟩
  | .hbm, ⟨14, _⟩ => ⟨S1x512, .f32⟩
  | .hbm, ⟨15, _⟩ => ⟨S1x512, .f32⟩
  | .hbm, ⟨16, _⟩ => ⟨S2x128x512, .f32⟩
  | .local _ .vmem, ⟨0, _⟩ => ⟨S2x128x512, .f32⟩
  | .local _ .vmem, ⟨1, _⟩ => ⟨S512x64, .f32⟩
  | .local _ .vmem, ⟨2, _⟩ => ⟨S64x1, .f32⟩
  | .local _ .vmem, ⟨3, _⟩ => ⟨S512x512, .f32⟩
  | .local _ .vmem, ⟨4, _⟩ => ⟨S1x512, .f32⟩
  | .local _ .vmem, ⟨5, _⟩ => ⟨S512x32, .f32⟩
  | .local _ .vmem, ⟨6, _⟩ => ⟨S1x32, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S2x128x512, .f32⟩
  | .local _ .vmem, ⟨11, _⟩ => ⟨S512x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S2x128x512 : Shape := ⟨3, ![2, 128, 512]⟩
abbrev S512x64 : Shape := ⟨2, ![512, 64]⟩
abbrev S64 : Shape := ⟨1, ![64]⟩
abbrev S512x512 : Shape := ⟨2, ![512, 512]⟩
abbrev S512 : Shape := ⟨1, ![512]⟩
abbrev S512x32 : Shape := ⟨2, ![512, 32]⟩
abbrev S32 : Shape := ⟨1, ![32]⟩
abbrev S2 : Shape := ⟨1, ![2]⟩
abbrev S2x1 : Shape := ⟨2, ![2, 1]⟩
abbrev S_ : Shape := ⟨0, ![]⟩
abbrev S2x64x32x512 : Shape := ⟨4, ![2, 64, 32, 512]⟩
abbrev S128x2x512 : Shape := ⟨3, ![128, 2, 512]⟩
abbrev S1x2x512 : Shape := ⟨3, ![1, 2, 512]⟩
abbrev S2x512 : Shape := ⟨2, ![2, 512]⟩
abbrev S2x64 : Shape := ⟨2, ![2, 64]⟩
abbrev S1x64 : Shape := ⟨2, ![1, 64]⟩
abbrev S2x8 : Shape := ⟨2, ![2, 8]⟩
abbrev S1x512 : Shape := ⟨2, ![1, 512]⟩
abbrev S2x32 : Shape := ⟨2, ![2, 32]⟩
abbrev S1x32 : Shape := ⟨2, ![1, 32]⟩
abbrev S2x1x32x1 : Shape := ⟨4, ![2, 1, 32, 1]⟩
abbrev S2x1x1x512 : Shape := ⟨4, ![2, 1, 1, 512]⟩
abbrev S2x1x32x512 : Shape := ⟨4, ![2, 1, 32, 512]⟩
abbrev S2x8x32x512 : Shape := ⟨4, ![2, 8, 32, 512]⟩
abbrev S2x8x1 : Shape := ⟨3, ![2, 8, 1]⟩
abbrev S2x8x2 : Shape := ⟨3, ![2, 8, 2]⟩
abbrev S2x8x32 : Shape := ⟨3, ![2, 8, 32]⟩
abbrev S2x256 : Shape := ⟨2, ![2, 256]⟩
abbrev S1x1x512 : Shape := ⟨3, ![1, 1, 512]⟩

abbrev nBuf : Space → Nat
  | .hbm => 147
  | .vmem => 0
  | .smem => 0
  | _ => 0

abbrev hbmTy0_0 (i : Nat) : BufTy := match i % 128 with
  | 0 => ⟨S2x128x512, .f32⟩
  | 1 => ⟨S512x64, .f32⟩
  | 2 => ⟨S64, .f32⟩
  | 3 => ⟨S512x512, .f32⟩
  | 4 => ⟨S512, .f32⟩
  | 5 => ⟨S512x32, .f32⟩
  | 6 => ⟨S32, .f32⟩
  | 7 => ⟨S512x512, .f32⟩
  | 8 => ⟨S512, .f32⟩
  | 9 => ⟨S512x512, .f32⟩
  | 10 => ⟨S512, .f32⟩
  | 11 => ⟨S2, .i32⟩
  | 12 => ⟨S2x1, .i32⟩
  | 13 => ⟨S_, .f32⟩
  | 14 => ⟨S2x64x32x512, .f32⟩
  | 15 => ⟨S128x2x512, .f32⟩
  | 16 => ⟨S_, .f32⟩
  | 17 => ⟨S128x2x512, .f32⟩
  | 18 => ⟨S_, .i32⟩
  | 19 => ⟨S128x2x512, .f32⟩
  | 20 => ⟨S512x64, .f32⟩
  | 21 => ⟨S64, .f32⟩
  | 22 => ⟨S512x512, .f32⟩
  | 23 => ⟨S512, .f32⟩
  | 24 => ⟨S512x32, .f32⟩
  | 25 => ⟨S32, .f32⟩
  | 26 => ⟨S512x512, .f32⟩
  | 27 => ⟨S512, .f32⟩
  | 28 => ⟨S2x1, .i32⟩
  | 29 => ⟨S_, .i32⟩
  | 30 => ⟨S2x64x32x512, .f32⟩
  | 31 => ⟨S128x2x512, .f32⟩
  | 32 => ⟨S_, .i32⟩
  | 33 => ⟨S_, .i1⟩
  | 34 => ⟨S_, .i32⟩
  | 35 => ⟨S_, .i32⟩
  | 36 => ⟨S1x2x512, .f32⟩
  | 37 => ⟨S2x512, .f32⟩
  | 38 => ⟨S2x64, .f32⟩
  | 39 => ⟨S1x64, .f32⟩
  | 40 => ⟨S2x64, .f32⟩
  | 41 => ⟨S2x64, .f32⟩
  | 42 => ⟨S2x8, .f32⟩
  | 43 => ⟨S2x8, .i32⟩
  | 44 => ⟨S2x512, .f32⟩
  | 45 => ⟨S1x512, .f32⟩
  | 46 => ⟨S2x512, .f32⟩
  | 47 => ⟨S2x512, .f32⟩
  | 48 => ⟨S2x32, .f32⟩
  | 49 => ⟨S1x32, .f32⟩
  | 50 => ⟨S2x32, .f32⟩
  | 51 => ⟨S2x32, .f32⟩
  | 52 => ⟨S2x512, .f32⟩
  | 53 => ⟨S1x512, .f32⟩
  | 54 => ⟨S2x512, .f32⟩
  | 55 => ⟨S2x512, .f32⟩
  | 56 => ⟨S_, .f32⟩
  | 57 => ⟨S2, .f32⟩
  | 58 => ⟨S_, .f32⟩
  | 59 => ⟨S2, .f32⟩
  | 60 => ⟨S2, .f32⟩
  | 61 => ⟨S2x1, .f32⟩
  | 62 => ⟨S2x32, .f32⟩
  | 63 => ⟨S2x32, .f32⟩
  | 64 => ⟨S2x32, .f32⟩
  | 65 => ⟨S_, .f32⟩
  | 66 => ⟨S2, .f32⟩
  | 67 => ⟨S2x1, .f32⟩
  | 68 => ⟨S2x32, .f32⟩
  | 69 => ⟨S2x32, .f32⟩
  | 70 => ⟨S2x1x32x1, .f32⟩
  | 71 => ⟨S2x1x1x512, .f32⟩
  | 72 => ⟨S2x1x32x512, .f32⟩
  | 73 => ⟨S2x1x32x512, .f32⟩
  | 74 => ⟨S2x1x32x512, .f32⟩
  | 75 => ⟨S2x8x32x512, .f32⟩
  | 76 => ⟨S_, .i32⟩
  | 77 => ⟨S2x1, .i32⟩
  | 78 => ⟨S2x1, .i1⟩
  | 79 => ⟨S_, .i32⟩
  | 80 => ⟨S2x1, .i32⟩
  | 81 => ⟨S2x1, .i32⟩
  | 82 => ⟨S2x1, .i32⟩
  | 83 => ⟨S_, .i32⟩
  | 84 => ⟨S2x8, .i32⟩
  | 85 => ⟨S2x8, .i1⟩
  | 86 => ⟨S_, .i32⟩
  | 87 => ⟨S2x8, .i32⟩
  | 88 => ⟨S2x8, .i32⟩
  | 89 => ⟨S2x8, .i32⟩
  | 90 => ⟨S2x8, .i32⟩
  | 91 => ⟨S2x8x1, .i32⟩
  | 92 => ⟨S2x8x1, .i32⟩
  | 93 => ⟨S2x8x2, .i32⟩
  | 94 => ⟨S2x64x32x512, .f32⟩
  | 95 => ⟨S_, .i32⟩
  | 96 => ⟨S2x1, .i32⟩
  | 97 => ⟨S2x1, .i1⟩
  | 98 => ⟨S_, .i32⟩
  | 99 => ⟨S2x1, .i32⟩
  | 100 => ⟨S2x1, .i32⟩
  | 101 => ⟨S2x1, .i32⟩
  | 102 => ⟨S_, .i32⟩
  | 103 => ⟨S2x8, .i32⟩
  | 104 => ⟨S2x8, .i1⟩
  | 105 => ⟨S_, .i32⟩
  | 106 => ⟨S2x8, .i32⟩
  | 107 => ⟨S2x8, .i32⟩
  | 108 => ⟨S2x8, .i32⟩
  | 109 => ⟨S2x8, .i32⟩
  | 110 => ⟨S2x8x1, .i32⟩
  | 111 => ⟨S2x8x1, .i32⟩
  | 112 => ⟨S2x8x2, .i32⟩
  | 113 => ⟨S2x8x32x512, .f32⟩
  | 114 => ⟨S2x8x32, .f32⟩
  | 115 => ⟨S_, .f32⟩
  | 116 => ⟨S_, .f32⟩
  | 117 => ⟨S2x8x32, .f32⟩
  | 118 => ⟨S2x8x32, .f32⟩
  | 119 => ⟨S2x256, .f32⟩
  | 120 => ⟨S_, .f32⟩
  | 121 => ⟨S2, .f32⟩
  | 122 => ⟨S_, .f32⟩
  | 123 => ⟨S2, .f32⟩
  | 124 => ⟨S2, .f32⟩
  | 125 => ⟨S2x1, .f32⟩
  | 126 => ⟨S2x256, .f32⟩
  | 127 => ⟨S2x256, .f32⟩
  | _ => ⟨S2x128x512, .f32⟩

abbrev hbmTy0_1 (i : Nat) : BufTy := match i % 128 with
  | 0 => ⟨S2x256, .f32⟩
  | 1 => ⟨S_, .f32⟩
  | 2 => ⟨S2, .f32⟩
  | 3 => ⟨S2x1, .f32⟩
  | 4 => ⟨S2x256, .f32⟩
  | 5 => ⟨S2x256, .f32⟩
  | 6 => ⟨S2x8x32, .f32⟩
  | 7 => ⟨S2x512, .f32⟩
  | 8 => ⟨S1x2x512, .f32⟩
  | 9 => ⟨S_, .i32⟩
  | 10 => ⟨S_, .i32⟩
  | 11 => ⟨S128x2x512, .f32⟩
  | 12 => ⟨S_, .i32⟩
  | 13 => ⟨S_, .i32⟩
  | 14 => ⟨S2x128x512, .f32⟩
  | 15 => ⟨S2x128x512, .f32⟩
  | 16 => ⟨S1x1x512, .f32⟩
  | 17 => ⟨S2x128x512, .f32⟩
  | 18 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_c : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev main_v5_8 : Ref sig .tc := ⟨.hbm, 27, rfl⟩
abbrev main_v5_9 : Ref sig .tc := ⟨.hbm, 28, rfl⟩
abbrev main_v5_10 : Ref sig .tc := ⟨.hbm, 29, rfl⟩
abbrev main_v5_11 : Ref sig .tc := ⟨.hbm, 30, rfl⟩
abbrev main_v5_12 : Ref sig .tc := ⟨.hbm, 31, rfl⟩
abbrev main_while0c_c_13 : Ref sig .tc := ⟨.hbm, 32, rfl⟩
abbrev main_while0c_v11 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_v0 : Ref sig .tc := ⟨.hbm, 36, rfl⟩
abbrev main_while0b_v11 : Ref sig .tc := ⟨.hbm, 37, rfl⟩
abbrev main_while0b_v12 : Ref sig .tc := ⟨.hbm, 38, rfl⟩
abbrev main_while0b_v13 : Ref sig .tc := ⟨.hbm, 39, rfl⟩
abbrev main_while0b_v14 : Ref sig .tc := ⟨.hbm, 40, rfl⟩
abbrev main_while0b_v15 : Ref sig .tc := ⟨.hbm, 41, rfl⟩
abbrev main_while0b_values : Ref sig .tc := ⟨.hbm, 42, rfl⟩
abbrev main_while0b_indices : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_cst_13 : Ref sig .tc := ⟨.hbm, 56, rfl⟩
abbrev main_while0b_v28 : Ref sig .tc := ⟨.hbm, 57, rfl⟩
abbrev main_while0b_cst_14 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_cst_15 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_v41 : Ref sig .tc := ⟨.hbm, 72, rfl⟩
abbrev main_while0b_v42 : Ref sig .tc := ⟨.hbm, 73, rfl⟩
abbrev main_while0b_v43 : Ref sig .tc := ⟨.hbm, 74, rfl⟩
abbrev main_while0b_v44 : Ref sig .tc := ⟨.hbm, 75, rfl⟩
abbrev main_while0b_c_16 : Ref sig .tc := ⟨.hbm, 76, rfl⟩
abbrev main_while0b_v45 : Ref sig .tc := ⟨.hbm, 77, rfl⟩
abbrev main_while0b_v46 : Ref sig .tc := ⟨.hbm, 78, rfl⟩
abbrev main_while0b_c_17 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_c_18 : Ref sig .tc := ⟨.hbm, 83, rfl⟩
abbrev main_while0b_v50 : Ref sig .tc := ⟨.hbm, 84, rfl⟩
abbrev main_while0b_v51 : Ref sig .tc := ⟨.hbm, 85, rfl⟩
abbrev main_while0b_c_19 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_c_20 : Ref sig .tc := ⟨.hbm, 95, rfl⟩
abbrev main_while0b_v60 : Ref sig .tc := ⟨.hbm, 96, rfl⟩
abbrev main_while0b_v61 : Ref sig .tc := ⟨.hbm, 97, rfl⟩
abbrev main_while0b_c_21 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_c_22 : Ref sig .tc := ⟨.hbm, 102, rfl⟩
abbrev main_while0b_v65 : Ref sig .tc := ⟨.hbm, 103, rfl⟩
abbrev main_while0b_v66 : Ref sig .tc := ⟨.hbm, 104, rfl⟩
abbrev main_while0b_c_23 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_cst_24 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_cst_25 : Ref sig .tc := ⟨.hbm, 120, rfl⟩
abbrev main_while0b_v80 : Ref sig .tc := ⟨.hbm, 121, rfl⟩
abbrev main_while0b_cst_26 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_v86 : Ref sig .tc := ⟨.hbm, 128, rfl⟩
abbrev main_while0b_cst_27 : Ref sig .tc := ⟨.hbm, 129, rfl⟩
abbrev main_while0b_v87 : Ref sig .tc := ⟨.hbm, 130, rfl⟩
abbrev main_while0b_v88 : Ref sig .tc := ⟨.hbm, 131, rfl⟩
abbrev main_while0b_v89 : Ref sig .tc := ⟨.hbm, 132, rfl⟩
abbrev main_while0b_v90 : Ref sig .tc := ⟨.hbm, 133, rfl⟩
abbrev main_while0b_v91 : Ref sig .tc := ⟨.hbm, 134, rfl⟩
abbrev main_while0b_v92 : Ref sig .tc := ⟨.hbm, 135, rfl⟩
abbrev main_while0b_call1_v0 : Ref sig .tc := ⟨.hbm, 136, rfl⟩
abbrev main_while0b_call1_c : Ref sig .tc := ⟨.hbm, 137, rfl⟩
abbrev main_while0b_call1_c_0 : Ref sig .tc := ⟨.hbm, 138, rfl⟩
abbrev main_while0b_v93 : Ref sig .tc := ⟨.hbm, 139, rfl⟩
abbrev main_while0b_c_28 : Ref sig .tc := ⟨.hbm, 140, rfl⟩
abbrev main_while0b_v94 : Ref sig .tc := ⟨.hbm, 141, rfl⟩
abbrev main_v6 : Ref sig .tc := ⟨.hbm, 142, rfl⟩
abbrev main_v7 : Ref sig .tc := ⟨.hbm, 143, rfl⟩
abbrev main_v8 : Ref sig .tc := ⟨.hbm, 144, rfl⟩
abbrev main_v9 : Ref sig .tc := ⟨.hbm, 145, rfl⟩
abbrev main_v10 : Ref sig .tc := ⟨.hbm, 146, rfl⟩

abbrev nD : Nat := 1
abbrev τ : Topo := Topo.v7x

variable {F : FTy → Type} [FloatOps F]

abbrev main_while0_count : Scf.Loop 32 := ⟨0#32, 128#32, 1#32⟩
-- ==== Proof.Consts.lean ====
/- The float constants of the two programs, read at the ideal values. -/
module

public import Idealize.ShloMosaic.PureOps.Ideal
public import Idealize.ShloMosaic.Lib.IdealHost

@[expose] public section

namespace Cert.Own

open Idealize.ShloMosaic

/-- The word of positive infinity is the greatest extended real. -/
theorem bits_top : Ideal.ofBits .f32 0x7F800000#32 = ⊤ := by
  simp [Ideal.ofBits, Ideal.ieee]

/-- The word of negative infinity is the least extended real. -/
theorem bits_bot : Ideal.ofBits .f32 0xFF800000#32 = ⊥ := by
  simp [Ideal.ofBits, Ideal.ieee]

/-- The word of zero. -/
theorem bits_zero : Ideal.ofBits .f32 0x00000000#32 = 0 := by
  simp [Ideal.ofBits, Ideal.ieee]

/-- The word of one. -/
theorem bits_one : Ideal.ofBits .f32 0x3F800000#32 = ((1 : ℝ) : EReal) := by
  simp [Ideal.ofBits, Ideal.ieee, -EReal.coe_mul]; norm_num

/-- The word of 512. -/
theorem bits_512 : Ideal.ofBits .f32 0x44000000#32 = ((512 : ℝ) : EReal) := by
  simp [Ideal.ofBits, Ideal.ieee, -EReal.coe_mul]; norm_num

/-- The word of 64. -/
theorem bits_64 : Ideal.ofBits .f32 0x42800000#32 = ((64 : ℝ) : EReal) := by
  simp [Ideal.ofBits, Ideal.ieee, -EReal.coe_mul]; norm_num

end Cert.Own

end
-- ==== Proof.Finite.lean ====
/- What the precondition says: every element of the nine arguments it names is a real number. -/
module

public import proofs.«01_k».proof.Defs
public import proofs.«01_k».proof.Proof.Consts
public import proofs.«01_k».proof.Proof.Gen.ReferenceIdeal
public import proofs.«01_k».proof.Proof.Gen.ReferenceIdeal.Run
public import Idealize.ShloMosaic.Lib.ReduceAll
public import Idealize.ShloMosaic.Lib.Affine

@[expose] public section

noncomputable section

namespace Cert.Pre_finite.Own

open Idealize.ShloMosaic

/-- The side conditions of the precondition's operations. -/
theorem facts : Cert.Pre_finite.Facts where
  bcast_S_S2x128x512 := by decide
  reducesTo_S2x128x512_S_d0_1_2 := by decide
  h_S_ := by decide
  bcast_S_S512x64 := by decide
  reducesTo_S512x64_S_d0_1 := by decide
  bcast_S_S64 := by decide
  reducesTo_S64_S_d0 := by decide
  bcast_S_S512x512 := by decide
  reducesTo_S512x512_S_d0_1 := by decide
  bcast_S_S512 := by decide
  reducesTo_S512_S_d0 := by decide
  bcast_S_S512x32 := by decide
  reducesTo_S512x32_S_d0_1 := by decide
  bcast_S_S32 := by decide
  reducesTo_S32_S_d0 := by decide

/-- An extended real whose absolute value is below positive infinity is a real number. -/
theorem real_of_abs {x : EReal} (h : max x (-x) < ⊤) : ∃ r : ℝ, x = r := by
  induction x with
  | bot => simp at h
  | coe r => exact ⟨r, rfl⟩
  | top => simp at h

instance : Subsingleton S_.Idx := ⟨fun a b => funext fun i => i.elim0⟩

/-- One conjunct of the precondition: where it is one, the array holds real numbers. -/
theorem reals {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) : ∃ r : s.Idx → ℝ, ∀ i, x i = ((r i : ℝ) : EReal) := by
  have h' : ∀ i, ∃ r : ℝ, x i = r := fun i => by
    have := Host.reduce_andi_all _ _ _ _ _ h i
    change BitVec.ofBool (decide (max (x i) (-x i) < Ideal.ofBits .f32 0x7F800000#32)) = 1#1 at this
    rw [Cert.Own.bits_top] at this
    apply real_of_abs
    by_contra hc
    rw [decide_eq_false hc] at this
    exact absurd this (by decide)
  choose r hr using h'
  exact ⟨r, hr⟩

/-- The precondition, read: the nine arrays hold real numbers. -/
theorem finite [Facts] (a0 : FVec Ideal S2x128x512 .f32) (a1 : FVec Ideal S512x64 .f32) (a2 : FVec Ideal S64 .f32)
    (a3 : FVec Ideal S512x512 .f32) (a4 : FVec Ideal S512 .f32) (a5 : FVec Ideal S512x32 .f32) (a6 : FVec Ideal S32 .f32)
    (a7 : FVec Ideal S512x512 .f32) (a8 : FVec Ideal S512 .f32) (a9 : FVec Ideal S512x512 .f32) (a10 : FVec Ideal S512 .f32)
    (h : fn (F := Ideal) a0 a1 a2 a3 a4 a5 a6 a7 a8 a9 a10 = fun _ => 1#1) :
    (∃ r : S2x128x512.Idx → ℝ, ∀ i, a0 i = ((r i : ℝ) : EReal)) ∧ (∃ r : S512x64.Idx → ℝ, ∀ i, a1 i = ((r i : ℝ) : EReal))
    ∧ (∃ r : S64.Idx → ℝ, ∀ i, a2 i = ((r i : ℝ) : EReal)) ∧ (∃ r : S512x512.Idx → ℝ, ∀ i, a3 i = ((r i : ℝ) : EReal))
    ∧ (∃ r : S512.Idx → ℝ, ∀ i, a4 i = ((r i : ℝ) : EReal)) ∧ (∃ r : S512x32.Idx → ℝ, ∀ i, a5 i = ((r i : ℝ) : EReal))
    ∧ (∃ r : S32.Idx → ℝ, ∀ i, a6 i = ((r i : ℝ) : EReal)) ∧ (∃ r : S512x512.Idx → ℝ, ∀ i, a7 i = ((r i : ℝ) : EReal))
    ∧ (∃ r : S512.Idx → ℝ, ∀ i, a8 i = ((r i : ℝ) : EReal)) := by
  have h0 := congrFun h (fun i => i.elim0)
  unfold fn at h0
  dsimp only at h0
  unfold fn_part1 at h0
  dsimp only at h0
  unfold fn_part2 at h0
  dsimp only at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨reals a0 _ _ _ _ h0, reals a1 _ _ _ _ h1, reals a2 _ _ _ _ h2, reals a3 _ _ _ _ h3, reals a4 _ _ _ _ h4,
    reals a5 _ _ _ _ h5, reals a6 _ _ _ _ h6, reals a7 _ _ _ _ h7, reals a8 _ _ _ _ h8⟩

end Cert.Pre_finite.Own

namespace Cert.ReferenceIdeal.Own

open Idealize.ShloMosaic Idealize.SL.Sem

/-- The reference's frame: its run at the arguments; the program declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2, sem_eq_zero_of_no_sems (by decide) r.2⟩)
    (Cert.ReferenceIdeal.Value.run (F := Ideal) m ρ)

end Cert.ReferenceIdeal.Own

end
-- ==== Proof.KernelTerm.lean ====
/- The kernel's result as one term over its arguments: the printed values, named in the order the kernel computes them. -/
module

public import proofs.«01_k».proof.Proof.Gen.KernelIdeal.Value
public import Idealize.ShloMosaic.Lib.Tactic

@[expose] public section

noncomputable section

namespace Cert.KernelIdeal.Own

open Cert.KernelIdeal Cert.KernelIdeal.Gen Idealize.ShloMosaic

variable {F : FTy → Type} [FloatOps F]

/-! The selection rounds over the logits `v7`: `oK` marks what round `K` picks, `m3` and `m6` are the logits left after three
    and after six rounds, `c6` the greatest of those in each column, `aa` the sum of the marks. -/

def o0 (v7 : FVec F S64x256 .f32) := k0_pay11 v7
def o1 (v7 : FVec F S64x256 .f32) := k0_pay14 v7
def o2 (v7 : FVec F S64x256 .f32) := k0_pay17 v7
def m3 (v7 : FVec F S64x256 .f32) := k0_pay18 v7
def o3 (v7 : FVec F S64x256 .f32) := k0_pay20 k0_pay9 (m3 v7)
def o4 (v7 : FVec F S64x256 .f32) := k0_pay23 k0_pay9 (m3 v7)
def o5 (v7 : FVec F S64x256 .f32) := k0_pay26 k0_pay9 (m3 v7)
def m6 (v7 : FVec F S64x256 .f32) := k0_pay27 k0_pay9 (m3 v7)
def c6 (v7 : FVec F S64x256 .f32) := k0_pay28 k0_pay9 (m3 v7)
def o6 (v7 : FVec F S64x256 .f32) := k0_pay30 k0_pay9 (m6 v7) (c6 v7)
def o7 (v7 : FVec F S64x256 .f32) := k0_pay31 k0_pay9 (m6 v7) (c6 v7)
def aa (v7 : FVec F S64x256 .f32) := k0_pay32 k0_pay9 (o0 v7) (o1 v7) (o2 v7) (o3 v7) (o4 v7) (o5 v7) (m6 v7) (c6 v7)

/-! The first batch row, over the marks `wK`, their sum `a` cut to the row's columns, the row's weights `w`, and the scaled
    products `p`: the scores' exponentials, the reciprocal denominators, the read. -/

def aA (v7 : FVec F S64x256 .f32) := k0_pay37 k0_pay9 (o0 v7) (o1 v7) (o2 v7) (o3 v7) (o4 v7) (o5 v7) (m6 v7) (c6 v7)
def mA (v7 : FVec F S64x256 .f32) := k0_pay42 (o3 v7) (o4 v7) (o5 v7) (o6 v7) (o7 v7) (aA v7) (k0_pay39 (o0 v7)) (k0_pay40 (o1 v7)) (k0_pay41 (o2 v7))
def eA (v7 : FVec F S64x256 .f32) (v13 v25 : FVec F S256x512 .f32) (v34 : FVec F S256x32 .f32) :=
  k0_pay51 (o3 v7) (o4 v7) (o5 v7) (o6 v7) (o7 v7) (k0_pay36 v34) (aA v7) (k0_pay38 v13 v25) (k0_pay39 (o0 v7)) (k0_pay40 (o1 v7)) (k0_pay41 (o2 v7))
def dA (v7 : FVec F S64x256 .f32) (v13 v25 : FVec F S256x512 .f32) (v34 : FVec F S256x32 .f32) :=
  k0_pay52 (o3 v7) (o4 v7) (o5 v7) (o6 v7) (o7 v7) (k0_pay36 v34) (aA v7) (k0_pay38 v13 v25) (k0_pay39 (o0 v7)) (k0_pay40 (o1 v7)) (k0_pay41 (o2 v7))
def readA (v7 : FVec F S64x256 .f32) (v13 v25 : FVec F S256x512 .f32) (v34 : FVec F S256x32 .f32) : FVec F S128x512 .f32 :=
  k0_pay55 k0_pay33 (k0_pay35 v25) (k0_pay36 v34)
    (k0_pay44 (o3 v7) (o4 v7) (o5 v7) (o6 v7) (o7 v7) (aA v7) (k0_pay39 (o0 v7)) (k0_pay40 (o1 v7)) (k0_pay41 (o2 v7)))
    (k0_pay45 (o3 v7) (o4 v7) (o5 v7) (o6 v7) (o7 v7) (aA v7) (k0_pay39 (o0 v7)) (k0_pay40 (o1 v7)) (k0_pay41 (o2 v7)))
    (k0_pay46 (o3 v7) (o4 v7) (o5 v7) (o6 v7) (o7 v7) (aA v7) (k0_pay39 (o0 v7)) (k0_pay40 (o1 v7)) (k0_pay41 (o2 v7)))
    (k0_pay47 (o3 v7) (o4 v7) (o5 v7) (o6 v7) (o7 v7) (aA v7) (k0_pay39 (o0 v7)) (k0_pay40 (o1 v7)) (k0_pay41 (o2 v7)))
    (k0_pay48 (o3 v7) (o4 v7) (o5 v7) (o6 v7) (o7 v7) (aA v7) (k0_pay39 (o0 v7)) (k0_pay40 (o1 v7)) (k0_pay41 (o2 v7)))
    (k0_pay49 (o3 v7) (o4 v7) (o5 v7) (o6 v7) (o7 v7) (aA v7) (k0_pay39 (o0 v7)) (k0_pay40 (o1 v7)) (k0_pay41 (o2 v7)))
    (k0_pay50 (o3 v7) (o4 v7) (o5 v7) (o6 v7) (o7 v7) (aA v7) (k0_pay39 (o0 v7)) (k0_pay40 (o1 v7)) (k0_pay41 (o2 v7)))
    (eA v7 v13 v25 v34) (dA v7 v13 v25 v34)
    (k0_pay53 (o3 v7) (o4 v7) (o5 v7) (o6 v7) (o7 v7) (k0_pay36 v34) (aA v7) (k0_pay38 v13 v25) (k0_pay39 (o0 v7)) (k0_pay40 (o1 v7)) (k0_pay41 (o2 v7)))
    (k0_pay54 (o3 v7) (o4 v7) (o5 v7) (o6 v7) (o7 v7) (k0_pay36 v34) (aA v7) (k0_pay38 v13 v25) (k0_pay39 (o0 v7)) (k0_pay40 (o1 v7)) (k0_pay41 (o2 v7)))

/-! The second batch row. -/

def mB (v7 : FVec F S64x256 .f32) := k0_pay59 (o0 v7) (o1 v7) (o2 v7) (o3 v7) (o4 v7) (o5 v7) (o6 v7) (o7 v7) (aa v7)
def mB0 (v7 : FVec F S64x256 .f32) := k0_pay60 (o0 v7) (o1 v7) (o2 v7) (o3 v7) (o4 v7) (o5 v7) (o6 v7) (o7 v7) (aa v7)
def mB1 (v7 : FVec F S64x256 .f32) := k0_pay61 (o0 v7) (o1 v7) (o2 v7) (o3 v7) (o4 v7) (o5 v7) (o6 v7) (o7 v7) (aa v7)
def mB2 (v7 : FVec F S64x256 .f32) := k0_pay62 (o0 v7) (o1 v7) (o2 v7) (o3 v7) (o4 v7) (o5 v7) (o6 v7) (o7 v7) (aa v7)
def mB3 (v7 : FVec F S64x256 .f32) := k0_pay63 (o0 v7) (o1 v7) (o2 v7) (o3 v7) (o4 v7) (o5 v7) (o6 v7) (o7 v7) (aa v7)
def mB4 (v7 : FVec F S64x256 .f32) := k0_pay64 (o0 v7) (o1 v7) (o2 v7) (o3 v7) (o4 v7) (o5 v7) (o6 v7) (o7 v7) (aa v7)
def qB (v13 v25 : FVec F S256x512 .f32) := k0_pay58 v13 v25 k0_pay34
def eB (v7 : FVec F S64x256 .f32) (v13 v25 : FVec F S256x512 .f32) (v34 : FVec F S256x32 .f32) :=
  k0_pay68 (k0_pay57 v34) (qB v13 v25) (mB v7) (mB0 v7) (mB1 v7) (mB2 v7) (mB3 v7) (mB4 v7)
def dB (v7 : FVec F S64x256 .f32) (v13 v25 : FVec F S256x512 .f32) (v34 : FVec F S256x32 .f32) :=
  k0_pay69 (k0_pay57 v34) (qB v13 v25) (mB v7) (mB0 v7) (mB1 v7) (mB2 v7) (mB3 v7) (mB4 v7)
def pB (v7 : FVec F S64x256 .f32) (v13 v25 : FVec F S256x512 .f32) (v34 : FVec F S256x32 .f32) :=
  k0_pay70 (k0_pay57 v34) (qB v13 v25) (mB v7) (mB0 v7) (mB1 v7) (mB2 v7) (mB3 v7) (mB4 v7)
def sB (v7 : FVec F S64x256 .f32) (v13 v25 : FVec F S256x512 .f32) (v34 : FVec F S256x32 .f32) :=
  k0_pay71 (k0_pay57 v34) (qB v13 v25) (mB v7) (mB0 v7) (mB1 v7) (mB2 v7) (mB3 v7) (mB4 v7)

/-- The output block, over the logits, the queries, the values, the weights, and the output layer. -/
def outV (v7 : FVec F S64x256 .f32) (v13 v25 : FVec F S256x512 .f32) (v34 : FVec F S256x32 .f32) (wo : FVec F S512x512 .f32)
    (bo : FVec F S1x512 .f32) : FVec F S2x128x512 .f32 :=
  k0_pay1 k0_pay33 (readA v7 v13 v25 v34) (k0_pay56 v25) (k0_pay57 v34) (mB4 v7) (k0_pay65 (mB v7)) (k0_pay66 (mB v7)) (k0_pay67 (mB v7))
    (eB v7 v13 v25 v34) (dB v7 v13 v25 v34) (pB v7 v13 v25 v34) (sB v7 v13 v25 v34) wo bo

/-- The output block over the kernel's input blocks. -/
def kerOut (x0 : FVec F S2x128x512 .f32) (x1 : FVec F S512x64 .f32) (x2 : FVec F S64x1 .f32) (x3 : FVec F S512x512 .f32)
    (x4 : FVec F S1x512 .f32) (x5 : FVec F S512x32 .f32) (x6 : FVec F S1x32 .f32) (x7 : FVec F S512x512 .f32) (x8 : FVec F S1x512 .f32)
    (x9 : FVec F S1x512 .f32) (wo : FVec F S512x512 .f32) : FVec F S2x128x512 .f32 :=
  outV (k0_pay3 x0 x1 x2) (k0_pay4 x0 x3 x4) (k0_pay5 x0 x7 x8) (k0_pay8 (k0_pay6 x0 x5 x6) (k0_pay7 x0 x5 x6)) wo x9

end Cert.KernelIdeal.Own

end
-- ==== Proof.KernelRun.lean ====
/- The run's found pieces are the kernel's result term. -/
module

public import proofs.«01_k».proof.Proof.KernelTerm
public import Idealize.ShloMosaic.Lib.VecWindow

@[expose] public section

set_option maxRecDepth 16384

noncomputable section

namespace Cert.KernelIdeal.Own

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Two zero offsets, as a constant function. -/
theorem hz2 : (![0, 0] : Fin 2 → Nat) = fun _ => 0 := funext fun a => by fin_cases a <;> rfl
/-- Three zero offsets, as a constant function. -/
theorem hz3 : (![0, 0, 0] : Fin 3 → Nat) = fun _ => 0 := funext fun a => by fin_cases a <;> rfl

set_option maxHeartbeats 4000000 in
/-- What the grid step stores, as the kernel's term over the blocks. -/
theorem outs_eq (c : Dev nD) (t : Fin cfg0.N) : outsAt0 m c t
    = kerOut (iblk m c 0 t) (iblk m c 1 t) (iblk m c 2 t) (iblk m c 3 t) (iblk m c 4 t) (iblk m c 5 t) (iblk m c 6 t) (iblk m c 7 t)
      (iblk m c 8 t) (iblk m c 9 t) (V m c main_arg9) := by
  unfold outsAt0 out0_A_10
  rw [View.read_writes_eq_canon _ _ _ (cover0_A_10 c _ _ _ _ _ _ _ _ _ _ _ _ _ _ _ _ _ _ _ _ _ _ _ _ _ _ _ _ _ _ _ _ _ _ _)]
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread,
    View.ld_unit_zero (S := S2x128x512) hz3, View.ld_unit_zero (S := S512x64) hz2, View.ld_unit_zero (S := S64x1) hz2, View.ld_unit_zero (S := S512x512) hz2,
    View.ld_unit_zero (S := S1x512) hz2, View.ld_unit_zero (S := S512x32) hz2, View.ld_unit_zero (S := S1x32) hz2]
  unfold kerOut outV
  congr 1
  exact View.readCov_full (View.whole cc0_scratch0) inb_S512x512_S512x512_0_0 _ _ []

/-- The block of operand 0 is its whole array. -/
theorem rd0 (c : Dev nD) (t : Fin cfg0.N) (f : Buf (Elt F) ((c : Thread nD τ).loc main_arg0)) :
    (win0_0.blk t).view.read (Elt F) f = f :=
  Memref.read_access_unit_zero (Elt F) main_arg0
    (show (fun a => (win0_0.index t) a * main_arg0.ty.shape.size a) = fun _ => 0 from
      funext fun a => by rw [fin_N0 t]; fin_cases a <;> decide) (fun a => by rw [fin_N0 t]; fin_cases a <;> decide) f
/-- The block of operand 1 is its whole array. -/
theorem rd1 (c : Dev nD) (t : Fin cfg0.N) (f : Buf (Elt F) ((c : Thread nD τ).loc main_arg1)) :
    (win0_1.blk t).view.read (Elt F) f = f :=
  Memref.read_access_unit_zero (Elt F) main_arg1
    (show (fun a => (win0_1.index t) a * main_arg1.ty.shape.size a) = fun _ => 0 from
      funext fun a => by rw [fin_N0 t]; fin_cases a <;> decide) (fun a => by rw [fin_N0 t]; fin_cases a <;> decide) f
/-- The block of operand 2 is its whole array. -/
theorem rd2 (c : Dev nD) (t : Fin cfg0.N) (f : Buf (Elt F) ((c : Thread nD τ).loc main_v0)) :
    (win0_2.blk t).view.read (Elt F) f = f :=
  Memref.read_access_unit_zero (Elt F) main_v0
    (show (fun a => (win0_2.index t) a * main_v0.ty.shape.size a) = fun _ => 0 from
      funext fun a => by rw [fin_N0 t]; fin_cases a <;> decide) (fun a => by rw [fin_N0 t]; fin_cases a <;> decide) f
/-- The block of operand 3 is its whole array. -/
theorem rd3 (c : Dev nD) (t : Fin cfg0.N) (f : Buf (Elt F) ((c : Thread nD τ).loc main_arg3)) :
    (win0_3.blk t).view.read (Elt F) f = f :=
  Memref.read_access_unit_zero (Elt F) main_arg3
    (show (fun a => (win0_3.index t) a * main_arg3.ty.shape.size a) = fun _ => 0 from
      funext fun a => by rw [fin_N0 t]; fin_cases a <;> decide) (fun a => by rw [fin_N0 t]; fin_cases a <;> decide) f
/-- The block of operand 4 is its whole array. -/
theorem rd4 (c : Dev nD) (t : Fin cfg0.N) (f : Buf (Elt F) ((c : Thread nD τ).loc main_v1)) :
    (win0_4.blk t).view.read (Elt F) f = f :=
  Memref.read_access_unit_zero (Elt F) main_v1
    (show (fun a => (win0_4.index t) a * main_v1.ty.shape.size a) = fun _ => 0 from
      funext fun a => by rw [fin_N0 t]; fin_cases a <;> decide) (fun a => by rw [fin_N0 t]; fin_cases a <;> decide) f
/-- The block of operand 5 is its whole array. -/
theorem rd5 (c : Dev nD) (t : Fin cfg0.N) (f : Buf (Elt F) ((c : Thread nD τ).loc main_arg5)) :
    (win0_5.blk t).view.read (Elt F) f = f :=
  Memref.read_access_unit_zero (Elt F) main_arg5
    (show (fun a => (win0_5.index t) a * main_arg5.ty.shape.size a) = fun _ => 0 from
      funext fun a => by rw [fin_N0 t]; fin_cases a <;> decide) (fun a => by rw [fin_N0 t]; fin_cases a <;> decide) f
/-- The block of operand 6 is its whole array. -/
theorem rd6 (c : Dev nD) (t : Fin cfg0.N) (f : Buf (Elt F) ((c : Thread nD τ).loc main_v2)) :
    (win0_6.blk t).view.read (Elt F) f = f :=
  Memref.read_access_unit_zero (Elt F) main_v2
    (show (fun a => (win0_6.index t) a * main_v2.ty.shape.size a) = fun _ => 0 from
      funext fun a => by rw [fin_N0 t]; fin_cases a <;> decide) (fun a => by rw [fin_N0 t]; fin_cases a <;> decide) f
/-- The block of operand 7 is its whole array. -/
theorem rd7 (c : Dev nD) (t : Fin cfg0.N) (f : Buf (Elt F) ((c : Thread nD τ).loc main_arg7)) :
    (win0_7.blk t).view.read (Elt F) f = f :=
  Memref.read_access_unit_zero (Elt F) main_arg7
    (show (fun a => (win0_7.index t) a * main_arg7.ty.shape.size a) = fun _ => 0 from
      funext fun a => by rw [fin_N0 t]; fin_cases a <;> decide) (fun a => by rw [fin_N0 t]; fin_cases a <;> decide) f
/-- The block of operand 8 is its whole array. -/
theorem rd8 (c : Dev nD) (t : Fin cfg0.N) (f : Buf (Elt F) ((c : Thread nD τ).loc main_v3)) :
    (win0_8.blk t).view.read (Elt F) f = f :=
  Memref.read_access_unit_zero (Elt F) main_v3
    (show (fun a => (win0_8.index t) a * main_v3.ty.shape.size a) = fun _ => 0 from
      funext fun a => by rw [fin_N0 t]; fin_cases a <;> decide) (fun a => by rw [fin_N0 t]; fin_cases a <;> decide) f
/-- The block of operand 9 is its whole array. -/
theorem rd9 (c : Dev nD) (t : Fin cfg0.N) (f : Buf (Elt F) ((c : Thread nD τ).loc main_v4)) :
    (win0_9.blk t).view.read (Elt F) f = f :=
  Memref.read_access_unit_zero (Elt F) main_v4
    (show (fun a => (win0_9.index t) a * main_v4.ty.shape.size a) = fun _ => 0 from
      funext fun a => by rw [fin_N0 t]; fin_cases a <;> decide) (fun a => by rw [fin_N0 t]; fin_cases a <;> decide) f
/-- The block of the result is the whole array. -/
theorem rd10 (c : Dev nD) (t : Fin cfg0.N) (f : Buf (Elt F) ((c : Thread nD τ).loc main_v5)) :
    (win0_10.blk t).view.read (Elt F) f = f :=
  Memref.read_access_unit_zero (Elt F) main_v5
    (show (fun a => (win0_10.index t) a * main_v5.ty.shape.size a) = fun _ => 0 from
      funext fun a => by rw [fin_N0 t]; fin_cases a <;> decide) (fun a => by rw [fin_N0 t]; fin_cases a <;> decide) f

/-- What the call gets as operand 0, from the arguments. -/
theorem ib0 (c : Dev nD) (t : Fin cfg0.N) : iblk m c 0 t = (m ((c : Thread nD τ).loc main_arg0)) :=
  (rd0 c t (V m c main_arg0)).trans (V_main_arg0 m c)
/-- What the call gets as operand 1, from the arguments. -/
theorem ib1 (c : Dev nD) (t : Fin cfg0.N) : iblk m c 1 t = (m ((c : Thread nD τ).loc main_arg1)) :=
  (rd1 c t (V m c main_arg1)).trans (V_main_arg1 m c)
/-- The selector bias as the call gets it, a column. -/
theorem V_v0 (c : Dev nD) : V m c main_v0 = (shapeCast S64x1 (m ((c : Thread nD τ).loc main_arg2)) shapeCasts_S64_S64x1) := by
  show StableHlo.after hostOps0 _ (Proc.devRef .tc main_v0) = _
  after_results
  rfl
/-- What the call gets as operand 2, from the arguments. -/
theorem ib2 (c : Dev nD) (t : Fin cfg0.N) : iblk m c 2 t = (shapeCast S64x1 (m ((c : Thread nD τ).loc main_arg2)) shapeCasts_S64_S64x1) :=
  (rd2 c t (V m c main_v0)).trans (V_v0 m c)
/-- What the call gets as operand 3, from the arguments. -/
theorem ib3 (c : Dev nD) (t : Fin cfg0.N) : iblk m c 3 t = (m ((c : Thread nD τ).loc main_arg3)) :=
  (rd3 c t (V m c main_arg3)).trans (V_main_arg3 m c)
/-- The query bias as the call gets it, a row. -/
theorem V_v1 (c : Dev nD) : V m c main_v1 = (shapeCast S1x512 (m ((c : Thread nD τ).loc main_arg4)) shapeCasts_S512_S1x512) := by
  show StableHlo.after hostOps0 _ (Proc.devRef .tc main_v1) = _
  after_results
  rfl
/-- What the call gets as operand 4, from the arguments. -/
theorem ib4 (c : Dev nD) (t : Fin cfg0.N) : iblk m c 4 t = (shapeCast S1x512 (m ((c : Thread nD τ).loc main_arg4)) shapeCasts_S512_S1x512) :=
  (rd4 c t (V m c main_v1)).trans (V_v1 m c)
/-- What the call gets as operand 5, from the arguments. -/
theorem ib5 (c : Dev nD) (t : Fin cfg0.N) : iblk m c 5 t = (m ((c : Thread nD τ).loc main_arg5)) :=
  (rd5 c t (V m c main_arg5)).trans (V_main_arg5 m c)
/-- The key bias as the call gets it, a row. -/
theorem V_v2 (c : Dev nD) : V m c main_v2 = (shapeCast S1x32 (m ((c : Thread nD τ).loc main_arg6)) shapeCasts_S32_S1x32) := by
  show StableHlo.after hostOps0 _ (Proc.devRef .tc main_v2) = _
  after_results
  rfl
/-- What the call gets as operand 6, from the arguments. -/
theorem ib6 (c : Dev nD) (t : Fin cfg0.N) : iblk m c 6 t = (shapeCast S1x32 (m ((c : Thread nD τ).loc main_arg6)) shapeCasts_S32_S1x32) :=
  (rd6 c t (V m c main_v2)).trans (V_v2 m c)
/-- What the call gets as operand 7, from the arguments. -/
theorem ib7 (c : Dev nD) (t : Fin cfg0.N) : iblk m c 7 t = (m ((c : Thread nD τ).loc main_arg7)) :=
  (rd7 c t (V m c main_arg7)).trans (V_main_arg7 m c)
/-- The value bias as the call gets it, a row. -/
theorem V_v3 (c : Dev nD) : V m c main_v3 = (shapeCast S1x512 (m ((c : Thread nD τ).loc main_arg8)) shapeCasts_S512_S1x512) := by
  show StableHlo.after hostOps0 _ (Proc.devRef .tc main_v3) = _
  after_results
  rfl
/-- What the call gets as operand 8, from the arguments. -/
theorem ib8 (c : Dev nD) (t : Fin cfg0.N) : iblk m c 8 t = (shapeCast S1x512 (m ((c : Thread nD τ).loc main_arg8)) shapeCasts_S512_S1x512) :=
  (rd8 c t (V m c main_v3)).trans (V_v3 m c)
/-- The output bias as the call gets it, a row. -/
theorem V_v4 (c : Dev nD) : V m c main_v4 = (shapeCast S1x512 (m ((c : Thread nD τ).loc main_arg10)) shapeCasts_S512_S1x512) := by
  show StableHlo.after hostOps0 _ (Proc.devRef .tc main_v4) = _
  after_results
  rfl
/-- What the call gets as operand 9, from the arguments. -/
theorem ib9 (c : Dev nD) (t : Fin cfg0.N) : iblk m c 9 t = (shapeCast S1x512 (m ((c : Thread nD τ).loc main_arg10)) shapeCasts_S512_S1x512) :=
  (rd9 c t (V m c main_v4)).trans (V_v4 m c)

/-- The result array of the kernel as a function of the arguments as launched. -/
def result (c : Dev nD) : FVec F S2x128x512 .f32 :=
    kerOut (m ((c : Thread nD τ).loc main_arg0))
      (m ((c : Thread nD τ).loc main_arg1))
      (shapeCast S64x1 (m ((c : Thread nD τ).loc main_arg2)) shapeCasts_S64_S64x1)
      (m ((c : Thread nD τ).loc main_arg3))
      (shapeCast S1x512 (m ((c : Thread nD τ).loc main_arg4)) shapeCasts_S512_S1x512)
      (m ((c : Thread nD τ).loc main_arg5))
      (shapeCast S1x32 (m ((c : Thread nD τ).loc main_arg6)) shapeCasts_S32_S1x32)
      (m ((c : Thread nD τ).loc main_arg7))
      (shapeCast S1x512 (m ((c : Thread nD τ).loc main_arg8)) shapeCasts_S512_S1x512)
      (shapeCast S1x512 (m ((c : Thread nD τ).loc main_arg10)) shapeCasts_S512_S1x512)
      (m ((c : Thread nD τ).loc main_arg9))

/-- What the one grid step writes back is `result`. -/
theorem flushed_eq (c : Dev nD) (t : Fin cfg0.N) : (dats m 0 c).flushed 10 t = result m c := by
  rw [Cert.KernelIdeal.Value.flushed10, outs_eq]
  rw [ib0, ib1, ib2, ib3, ib4, ib5, ib6, ib7, ib8, ib9, V_main_arg9]
  rfl

/-- The result array after the call holds `result`. -/
theorem final (c : Dev nD) : (dats m 0 c).arrAt 10 cfg0.N = result m c :=
  (rd10 c t0_0 _).symm.trans ((Cert.KernelIdeal.Value.blocks10 m c t0_0 (flush0_10 t0_0)).trans (flushed_eq m c t0_0))

end Cert.KernelIdeal.Own

end
-- ==== Proof.Select.lean ====
/- The rank of a position among real keys, greatest first and equal keys in position order, and the stable sort that finds it. -/
module

public import Idealize.ShloMosaic.Lib.SortPrefix
public import Mathlib.Data.Real.Basic
public import Mathlib.Data.Fintype.EquivFin
public import Mathlib.Algebra.BigOperators.Fin

@[expose] public section

noncomputable section

namespace Cert.Own

open Idealize.ShloMosaic Finset

variable {n : ℕ}

/-- Position `i` comes before position `j`: its key is greater, or the keys are equal and it is the earlier one. -/
def Before (f : Fin n → ℝ) (i j : Fin n) : Prop := f j < f i ∨ (f i = f j ∧ i < j)

open Classical in
/-- How many positions come before `i`. -/
def rank (f : Fin n → ℝ) (i : Fin n) : ℕ := (univ.filter fun j => Before f j i).card

/-- No position comes before itself. -/
theorem Before.irrefl (f : Fin n → ℝ) (i : Fin n) : ¬ Before f i i := by
  rintro (h | ⟨_, h⟩) <;> exact lt_irrefl _ h

/-- Coming before is transitive. -/
theorem Before.trans {f : Fin n → ℝ} {i j k : Fin n} (h : Before f i j) (h' : Before f j k) : Before f i k := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- Of two different positions one comes before the other. -/
theorem Before.total (f : Fin n → ℝ) {i j : Fin n} (h : i ≠ j) : Before f i j ∨ Before f j i := by
  rcases lt_trichotomy (f i) (f j) with g | g | g
  · exact .inr (.inl g)
  · rcases lt_or_gt_of_ne h with l | l
    · exact .inl (.inr ⟨g, l⟩)
    · exact .inr (.inr ⟨g.symm, l⟩)
  · exact .inl (.inl g)

/-- What comes before has the smaller rank. -/
theorem rank_lt_of_before {f : Fin n → ℝ} {i j : Fin n} (h : Before f i j) : rank f i < rank f j := by
  classical
  refine card_lt_card (Finset.ssubset_iff_subset_ne.2 ⟨fun k hk => ?_, fun e => ?_⟩)
  · simp only [mem_filter, mem_univ, true_and] at hk ⊢
    exact hk.trans h
  · have : i ∈ univ.filter fun k => Before f k i := by rw [e]; simpa using h
    exact Before.irrefl f i (by simpa using this)

/-- What has the smaller rank comes before. -/
theorem before_of_rank_lt {f : Fin n → ℝ} {i j : Fin n} (h : rank f i < rank f j) : Before f i j := by
  rcases eq_or_ne i j with e | e
  · exact absurd h (e ▸ lt_irrefl _)
  · rcases Before.total f e with g | g
    · exact g
    · exact absurd (rank_lt_of_before g) (by omega)

/-- Different positions have different ranks. -/
theorem rank_injective (f : Fin n → ℝ) : Function.Injective (rank f) := fun i j h => by
  by_contra e
  rcases Before.total f e with g | g <;> exact absurd (rank_lt_of_before g) (by omega)

/-- A rank is below the number of positions. -/
theorem rank_lt (f : Fin n → ℝ) (i : Fin n) : rank f i < n := by
  classical
  have : rank f i < (univ : Finset (Fin n)).card := by
    refine card_lt_card (Finset.ssubset_iff_subset_ne.2 ⟨subset_univ _, fun e => ?_⟩)
    have : i ∈ univ.filter fun k => Before f k i := by rw [e]; exact mem_univ i
    exact Before.irrefl f i (by simpa using this)
  simpa using this

/-- The ranks are all of the numbers below `n`, each once. -/
def rankEquiv (f : Fin n → ℝ) : Fin n ≃ Fin n :=
  Equiv.ofBijective (fun i => ⟨rank f i, rank_lt f i⟩)
    (Finite.injective_iff_bijective.1 fun i j h => rank_injective f (Fin.mk.inj_iff.1 h))

/-- The position of rank `k`. -/
def sel (f : Fin n → ℝ) (k : Fin n) : Fin n := (rankEquiv f).symm k

/-- The position of rank `k` has rank `k`. -/
theorem rank_sel (f : Fin n → ℝ) (k : Fin n) : rank f (sel f k) = k.val :=
  congrArg Fin.val ((rankEquiv f).apply_symm_apply k)

/-- A position has rank `k` exactly when it is the position of rank `k`. -/
theorem rank_eq_iff (f : Fin n → ℝ) (i k : Fin n) : rank f i = k.val ↔ i = sel f k := by
  constructor
  · intro h
    exact rank_injective f (h.trans (rank_sel f k).symm)
  · rintro rfl
    exact rank_sel f k

/-- Different ranks belong to different positions. -/
theorem sel_injective (f : Fin n → ℝ) : Function.Injective (sel f) := (rankEquiv f).symm.injective

/-- An insertion sort from the last entry on inserts an entry before later ones only, so a tie may be broken by position. -/
theorem stableSort_tie {ι : Type} (R R' : ι → ι → Bool) (P : ι → ι → Prop) (h : ∀ a b, P a b → R b a = R' b a) (l : List ι)
    (hl : l.Pairwise P) : stableSort R l = stableSort R' l := by
  induction l with
  | nil => rfl
  | cons a l ih =>
    obtain ⟨ha, hl'⟩ := List.pairwise_cons.mp hl
    unfold stableSort
    rw [ih hl']
    exact insertBefore_congr R R' a _ fun b hb => h a b (ha b ((perm_stableSort R' l).mem_iff.mp hb))

/-- The stable sort of the positions by real keys, greatest first, holds at place `k` the position of rank `k`. -/
theorem sortedFrom_eq_sel (f : Fin n → ℝ) (R : Fin n → Fin n → Bool) (hR : ∀ i j, R i j = true ↔ f j < f i) (k : Fin n) :
    sortedFrom R k = sel f k := by
  classical
  have hB : StrictTotalBefore fun i j => decide (Before f i j) :=
    ⟨fun a => by simpa using Before.irrefl f a, fun a b c h h' => by
      simp only [decide_eq_true_eq] at h h' ⊢; exact h.trans h', fun a b h => by
      simpa using Before.total f h⟩
  have e : sortedFrom R k = sortedFrom (fun i j => decide (Before f i j)) k := by
    have : sortPositions n R = sortPositions n fun i j => decide (Before f i j) := by
      refine stableSort_tie _ _ (· < ·) (fun a b hab => ?_) _ (List.pairwise_lt_finRange n)
      rw [Bool.eq_iff_iff, hR, decide_eq_true_eq, Before]
      constructor
      · exact .inl
      · rintro (h | ⟨_, h⟩)
        · exact h
        · exact absurd (hab.trans h) (lt_irrefl _)
    exact List.get_of_eq this _
  rw [e]
  have := hB.sortedFrom_eq_of_prefix le_rfl (sel f) (sel_injective f) (fun i j hij => by
    simp only [decide_eq_false_iff_not]
    intro h
    have := rank_lt_of_before h
    rw [rank_sel, rank_sel] at this
    exact absurd hij (by omega)) (fun i p hp => by
    exact absurd ((rankEquiv f).symm_apply_apply p) (hp _)) k
  exact this

/-- The greatest key among the ranks from `k` on is the one of rank `k`. -/
theorem le_key_of_rank {f : Fin n → ℝ} {k i : Fin n} (h : k.val ≤ rank f i) : f i ≤ f (sel f k) := by
  by_contra hc
  have := rank_lt_of_before (f := f) (i := i) (j := sel f k) (.inl (not_le.1 hc))
  rw [rank_sel] at this
  omega

/-- Of the ranks from `k` on, the one of rank `k` is the first that holds its key. -/
theorem sel_le_of_key {f : Fin n → ℝ} {k i : Fin n} (h : k.val ≤ rank f i) (hk : f (sel f k) ≤ f i) : sel f k ≤ i := by
  by_contra hc
  have := rank_lt_of_before (f := f) (i := i) (j := sel f k) (.inr ⟨le_antisymm (le_key_of_rank h) hk, not_le.1 hc⟩)
  rw [rank_sel] at this
  omega

end Cert.Own

end
-- ==== Proof.RealSpec.lean ====
/- The read of one batch row as real numbers, in the two arrangements of the programs, and their equality. -/
module

public import proofs.«01_k».proof.Proof.Select
public import Idealize.ShloMosaic.PureOps.Ideal
public import Mathlib.Tactic.FieldSimp

@[expose] public section

noncomputable section

namespace Cert.Own

open Finset

/-- The weight of entry `i` of a softmax, no maximum subtracted. -/
def soft {ι : Type} [Fintype ι] (z : ι → ℝ) (i : ι) : ℝ := Real.exp (z i) / ∑ j, Real.exp (z j)

/-- Subtracting one number from all of the entries leaves the softmax as it is. -/
theorem soft_shift {ι : Type} [Fintype ι] (z : ι → ℝ) (M : ℝ) (i : ι) :
    Real.exp (z i - M) / ∑ j, Real.exp (z j - M) = soft z i := by
  simp only [soft, Real.exp_sub, ← Finset.sum_div]
  exact div_div_div_cancel_right₀ (Real.exp_ne_zero M) _ _

variable (L : Fin 128 → Fin 64 → ℝ) (Q V : Fin 128 → Fin 512 → ℝ) (W : Fin 128 → Fin 32 → ℝ)

/-- One of the eight partitions step `s` selects, the `k`-th. -/
def pick (s : Fin 128) (k : Fin 8) : Fin 64 := sel (L s) (k.castLE (by decide))

/-- One when step `t` selects partition `p`. -/
def hit (t : Fin 128) (p : Fin 64) : ℝ := if rank (L t) p < 8 then 1 else 0

/-- One when step `t` is not after step `s`. -/
def caus (s t : Fin 128) : ℝ := if t ≤ s then 1 else 0

/-- The state of partition `p` after step `s`. -/
def state (s : Fin 128) (p : Fin 64) (c : Fin 32) (d : Fin 512) : ℝ :=
  ∑ t, caus s t * (hit L t p * (W t c * V t d))

/-- The score of entry `(k, c)` at step `s`, from the state. -/
def score (s : Fin 128) (k : Fin 8) (c : Fin 32) : ℝ := (∑ d, Q s d * state L V W s (pick L s k) c d) / Real.sqrt 512

/-- The read at step `s`, from the state. -/
def readR (s : Fin 128) (d : Fin 512) : ℝ :=
  ∑ kc : Fin 8 × Fin 32, soft (fun kc : Fin 8 × Fin 32 => score L Q V W s kc.1 kc.2) kc * state L V W s (pick L s kc.1) kc.2 d

/-- The masked and scaled inner products of the kernel. -/
def qv (s t : Fin 128) : ℝ := (∑ d, Q s d * V t d) * (caus s t * (1 / Real.sqrt 512))

/-- The kernel's score. -/
def kscore (s : Fin 128) (k : Fin 8) (c : Fin 32) : ℝ := ∑ t, (hit L t (pick L s k) * qv Q V s t) * W t c

/-- The kernel's denominator, the number `M` subtracted from each score. -/
def kden (M : ℝ) (s : Fin 128) : ℝ := ∑ kc : Fin 8 × Fin 32, Real.exp (kscore L Q V W s kc.1 kc.2 - M)

/-- The kernel's coefficient of step `t` in the read at step `s`. -/
def kcoef (M : ℝ) (s t : Fin 128) : ℝ :=
  (∑ k, hit L t (pick L s k) * ∑ c, Real.exp (kscore L Q V W s k c - M) * W t c) * (caus s t * (1 / kden L Q V W M s))

/-- The kernel's read. -/
def kread (M : ℝ) (s : Fin 128) (d : Fin 512) : ℝ := ∑ t, kcoef L Q V W M s t * V t d

/-- The kernel's score is the query's product with the state, scaled. -/
theorem kscore_eq (s : Fin 128) (k : Fin 8) (c : Fin 32) : kscore L Q V W s k c = score L Q V W s k c := by
  unfold kscore score qv state
  simp only [Finset.mul_sum, Finset.sum_mul, Finset.sum_div]
  rw [Finset.sum_comm]
  refine Finset.sum_congr rfl fun d _ => Finset.sum_congr rfl fun t _ => ?_
  ring

/-- The two arrangements give one read, whatever number the kernel subtracts. -/
theorem kread_eq (M : ℝ) (s : Fin 128) (d : Fin 512) : kread L Q V W M s d = readR L Q V W s d := by
  unfold kread readR state
  have h : ∀ t, kcoef L Q V W M s t * V t d
      = ∑ kc : Fin 8 × Fin 32, soft (fun kc : Fin 8 × Fin 32 => score L Q V W s kc.1 kc.2) kc
        * (caus s t * (hit L t (pick L s kc.1) * (W t kc.2 * V t d))) := fun t => by
    unfold kcoef
    rw [Fintype.sum_prod_type]
    simp only [Finset.mul_sum, Finset.sum_mul]
    refine Finset.sum_congr rfl fun k _ => Finset.sum_congr rfl fun c _ => ?_
    rw [← soft_shift _ M]
    simp only [← kscore_eq]
    rw [← kden]
    ring
  rw [Finset.sum_congr rfl fun t _ => h t, Finset.sum_comm]
  exact Finset.sum_congr rfl fun kc _ => (Finset.mul_sum _ _ _).symm

end Cert.Own

end
-- ==== Proof.Coe.lean ====
/- Extended-real arithmetic on entries that are real numbers: sums, greatest entries, quotients, the softmax. -/
module

public import Idealize.ShloMosaic.PureOps.Ideal
public import proofs.«01_k».proof.Proof.Consts
public import proofs.«01_k».proof.Proof.RealSpec

@[expose] public section

noncomputable section

namespace Cert.Own

open Idealize.ShloMosaic

/-- A sum of real numbers is the same sum taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Each entry is at most the maximum. -/
theorem le_fold_max {ι : Type} (s : Finset ι) (f : ι → EReal) (i : ι) (hi : i ∈ s) : f i ≤ s.fold max ⊥ f :=
  Finset.le_fold_max _ |>.2 (.inr ⟨i, hi, le_rfl⟩)

/-- A bound on every entry bounds the maximum. -/
theorem fold_max_le {ι : Type} (s : Finset ι) (f : ι → EReal) (a : EReal) (h : ∀ i ∈ s, f i ≤ a) : s.fold max ⊥ f ≤ a :=
  Finset.fold_max_le _ |>.2 ⟨bot_le, h⟩

/-- The minimum is at most each entry. -/
theorem fold_min_le {ι : Type} (s : Finset ι) (f : ι → EReal) (i : ι) (hi : i ∈ s) : s.fold min ⊤ f ≤ f i :=
  Finset.fold_min_le _ |>.2 (.inr ⟨i, hi, le_rfl⟩)

/-- A lower bound on every entry is a lower bound on the minimum. -/
theorem le_fold_min {ι : Type} (s : Finset ι) (f : ι → EReal) (a : EReal) (h : ∀ i ∈ s, a ≤ f i) : a ≤ s.fold min ⊤ f :=
  Finset.le_fold_min _ |>.2 ⟨le_top, h⟩

/-- The greatest of finitely many real entries, at least one, is real. -/
theorem fold_max_coe {n : Nat} (f : Fin (n + 1) → ℝ) : ∃ M : ℝ, Finset.univ.fold max ⊥ (fun i => ((f i : ℝ) : EReal)) = (M : EReal) := by
  obtain ⟨i, -, hi⟩ := Finset.exists_max_image Finset.univ f ⟨0, Finset.mem_univ 0⟩
  refine ⟨f i, le_antisymm (fold_max_le _ _ _ fun j hj => EReal.coe_le_coe_iff.2 (hi j hj)) ?_⟩
  exact le_fold_max Finset.univ (fun i => ((f i : ℝ) : EReal)) i (Finset.mem_univ i)

/-- Division of real numbers by a nonzero one is real division. -/
theorem div_coe_coe (x y : ℝ) (h : y ≠ 0) : Ideal.div (x : EReal) (y : EReal) = ((x / y : ℝ) : EReal) := by
  rw [Ideal.div_coe h, ← EReal.coe_mul, mul_one_div]

/-- A sum of exponentials over a nonempty range is positive. -/
theorem sum_exp_pos {ι : Type} [Fintype ι] [Nonempty ι] (f : ι → ℝ) : 0 < ∑ i, Real.exp (f i) :=
  Finset.sum_pos (fun i _ => Real.exp_pos _) Finset.univ_nonempty

/-- The softmax with the number `M` subtracted first. -/
theorem soft_coe {ι : Type} [Fintype ι] [Nonempty ι] (z : ι → ℝ) (M : ℝ) (i : ι) :
    Ideal.div (Ideal.exp (((z i : ℝ) : EReal) - (M : EReal))) (∑ j, Ideal.exp (((z j : ℝ) : EReal) - (M : EReal)))
      = ((soft z i : ℝ) : EReal) := by
  simp only [← EReal.coe_sub, Ideal.exp_coe, coe_sum]
  rw [div_coe_coe _ _ (sum_exp_pos fun j => z j - M).ne', soft_shift]

/-- The softmax of a row, its greatest entry subtracted first. -/
theorem soft_row {n : Nat} (z : Fin (n + 1) → ℝ) (i : Fin (n + 1)) :
    Ideal.div (Ideal.exp (((z i : ℝ) : EReal) - Finset.univ.fold max ⊥ (fun j => ((z j : ℝ) : EReal))))
        (∑ j, Ideal.exp (((z j : ℝ) : EReal) - Finset.univ.fold max ⊥ (fun j => ((z j : ℝ) : EReal))))
      = ((soft z i : ℝ) : EReal) := by
  obtain ⟨M, hM⟩ := fold_max_coe z
  rw [hM, soft_coe]

/-- One over the root of 512, as the words of one and of 512 give it. -/
theorem inv_root : Ideal.div 1 (Ideal.sqrt (Ideal.ofBits .f32 0x44000000#32)) = ((1 / Real.sqrt 512 : ℝ) : EReal) := by
  rw [bits_512, Ideal.sqrt_coe, if_neg (by norm_num), ← EReal.coe_one, div_coe_coe _ _ (by positivity)]

/-- An affine layer. -/
def lin {n : Nat} (X : Fin 2 → Fin 128 → Fin 512 → ℝ) (w : Fin 512 → Fin n → ℝ) (c : Fin n → ℝ) (b : Fin 2) (s : Fin 128) (p : Fin n) : ℝ :=
  ∑ d, X b s d * w d p + c p

/-- A sum over 256 flat entries is the sum over the eight by thirty-two pairs. -/
theorem sum_flat (f : Fin 8 → Fin 32 → ℝ) : ∑ l : Fin 256, f ⟨l.val / 32, by omega⟩ ⟨l.val % 32, by omega⟩ = ∑ kc : Fin 8 × Fin 32, f kc.1 kc.2 := by
  refine (Fintype.sum_equiv (finProdFinEquiv (m := 8) (n := 32)) (fun kc => f kc.1 kc.2) _ fun kc => ?_).symm
  have h1 : (⟨(finProdFinEquiv kc).val / 32, by omega⟩ : Fin 8) = kc.1 := Fin.ext (by
    have := kc.2.isLt; simp only [finProdFinEquiv_apply_val]; omega)
  have h2 : (⟨(finProdFinEquiv kc).val % 32, by omega⟩ : Fin 32) = kc.2 := Fin.ext (by
    have := kc.2.isLt; simp only [finProdFinEquiv_apply_val]; omega)
  exact congrArg₂ f h1.symm h2.symm

end Cert.Own

end
-- ==== Proof.KernelLin.lean ====
/- The kernel's four input layers at an index: each entry is a real number. -/
module

public import proofs.«01_k».proof.Proof.KernelTerm
public import proofs.«01_k».proof.Proof.Coe
public import Idealize.ShloMosaic.Lib.Pointwise

@[expose] public section

set_option maxRecDepth 16384

noncomputable section

namespace Cert.KernelIdeal.Own

open Cert.KernelIdeal Cert.KernelIdeal.Gen Idealize.ShloMosaic Idealize.ShloMosaic.Pointwise Cert.Own

/-- The batch row and the step of a row of the flattened input. -/
def bt (r : Fin 256) : Fin 2 := ⟨r.val / 128, by omega⟩
def st (r : Fin 256) : Fin 128 := ⟨r.val % 128, by omega⟩

variable {x : FVec Ideal S2x128x512 .f32} {X : Fin 2 → Fin 128 → Fin 512 → ℝ} (hx : ∀ b s d, x (ix3 b s d) = ((X b s d : ℝ) : EReal))
include hx

/-- The logits, transposed: column `r` holds the selector layer of step `r`. -/
theorem pay3_at {w : FVec Ideal S512x64 .f32} {w' : Fin 512 → Fin 64 → ℝ} (hw : ∀ d p, w (ix2 d p) = ((w' d p : ℝ) : EReal))
    {c : FVec Ideal S64x1 .f32} {c' : Fin 64 → ℝ} (hc : ∀ p, c (ix2 p 0) = ((c' p : ℝ) : EReal)) (p : Fin 64) (r : Fin 256) :
    k0_pay3 (F := Ideal) x w c (ix2 p r) = ((lin X w' c' (bt r) (st r) p : ℝ) : EReal) := by
  pointwise [k0_pay3, k0_pay2]
  simp only [hx, hw, hc, ← EReal.coe_mul, coe_sum, ← EReal.coe_add, lin, bt, st]
  simp only [mul_comm]

/-- The queries: row `r` holds the query layer of step `r`. -/
theorem pay4_at {w : FVec Ideal S512x512 .f32} {w' : Fin 512 → Fin 512 → ℝ} (hw : ∀ d p, w (ix2 d p) = ((w' d p : ℝ) : EReal))
    {c : FVec Ideal S1x512 .f32} {c' : Fin 512 → ℝ} (hc : ∀ p, c (ix2 0 p) = ((c' p : ℝ) : EReal)) (r : Fin 256) (p : Fin 512) :
    k0_pay4 (F := Ideal) x w c (ix2 r p) = ((lin X w' c' (bt r) (st r) p : ℝ) : EReal) := by
  pointwise [k0_pay4, k0_pay2]
  simp only [hx, hw, hc, ← EReal.coe_mul, coe_sum, ← EReal.coe_add, lin, bt, st]

/-- The values: row `r` holds the value layer of step `r`. -/
theorem pay5_at {w : FVec Ideal S512x512 .f32} {w' : Fin 512 → Fin 512 → ℝ} (hw : ∀ d p, w (ix2 d p) = ((w' d p : ℝ) : EReal))
    {c : FVec Ideal S1x512 .f32} {c' : Fin 512 → ℝ} (hc : ∀ p, c (ix2 0 p) = ((c' p : ℝ) : EReal)) (r : Fin 256) (p : Fin 512) :
    k0_pay5 (F := Ideal) x w c (ix2 r p) = ((lin X w' c' (bt r) (st r) p : ℝ) : EReal) := by
  pointwise [k0_pay5, k0_pay2]
  simp only [hx, hw, hc, ← EReal.coe_mul, coe_sum, ← EReal.coe_add, lin, bt, st]

/-- The weights: row `r` holds the softmax of the key layer of step `r`. -/
theorem pay8_at {w : FVec Ideal S512x32 .f32} {w' : Fin 512 → Fin 32 → ℝ} (hw : ∀ d p, w (ix2 d p) = ((w' d p : ℝ) : EReal))
    {c : FVec Ideal S1x32 .f32} {c' : Fin 32 → ℝ} (hc : ∀ p, c (ix2 0 p) = ((c' p : ℝ) : EReal)) (r : Fin 256) (p : Fin 32) :
    k0_pay8 (F := Ideal) (k0_pay6 (F := Ideal) x w c) (k0_pay7 (F := Ideal) x w c) (ix2 r p)
      = ((soft (lin X w' c' (bt r) (st r)) p : ℝ) : EReal) := by
  pointwise [k0_pay8, k0_pay7, k0_pay6, k0_pay2]
  simp only [hx, hw, hc, ← EReal.coe_mul, coe_sum, ← EReal.coe_add, bits_bot]
  exact soft_row (n := 31) (lin X w' c' (bt r) (st r)) p

end Cert.KernelIdeal.Own

end
-- ==== Proof.KernelSel.lean ====
/- The kernel's selection rounds: round `k` marks, in each column, the partition of rank `k`. -/
module

public import proofs.«01_k».proof.Proof.KernelTerm
public import proofs.«01_k».proof.Proof.Coe
public import Idealize.ShloMosaic.Lib.Pointwise

@[expose] public section

set_option maxRecDepth 16384

noncomputable section

namespace Cert.KernelIdeal.Own

open Cert.KernelIdeal Cert.KernelIdeal.Gen Idealize.ShloMosaic Idealize.ShloMosaic.Pointwise Cert.Own

/-- The logits left after `k` rounds. -/
def msk (v : FVec Ideal S64x256 .f32) : Nat → FVec Ideal S64x256 .f32
  | 0 => v
  | k + 1 => k0_pay21 k0_pay9 (msk v k)

/-- What a round leaves: the ranks below `k` replaced by the least extended real. -/
def Left (f : Fin 256 → Fin 64 → ℝ) (v : FVec Ideal S64x256 .f32) (k : Nat) : Prop :=
  ∀ p r, v (ix2 p r) = if rank (f r) p < k then ⊥ else ((f r p : ℝ) : EReal)

/-- A position below 64, read from its word. -/
theorem toInt_pos (p : Fin 64) : ((BitVec.ofNat 32 p.val).toInt : ℝ) = (p.val : ℝ) := by
  have : (BitVec.ofNat 32 p.val).toInt = (p.val : Int) := by
    have hn : (BitVec.ofNat 32 p.val).toNat = p.val := by
      simp only [BitVec.toNat_ofNat]; omega
    rw [BitVec.toInt_eq_toNat_of_lt (by omega), hn]
  rw [this]; simp

/-- Round `k` picks the position of rank `k`: the greatest of what is left, the earliest where several are equal. -/
theorem pick_at {f : Fin 256 → Fin 64 → ℝ} {v : FVec Ideal S64x256 .f32} {k : Fin 64} (h : Left f v k.val) (p : Fin 64) (r : Fin 256) :
    k0_pay19 (F := Ideal) k0_pay9 v (ix2 p r) = BitVec.ofBool (decide (p = sel (f r) k)) := by
  pointwise [k0_pay19, k0_pay9]
  congr 2
  have hs : ∀ q : Fin 64, FloatOps.sitofp (F := Ideal) .f32 (BitVec.ofNat 32 q.val) = (((q.val : ℝ) : ℝ) : EReal) := fun q => by
    rw [← toInt_pos]; rfl
  have hmax : Finset.univ.fold max ⊥ (fun q : Fin 64 => v (ix2 q r)) = ((f r (sel (f r) k) : ℝ) : EReal) := by
    refine le_antisymm (fold_max_le _ _ _ fun q _ => ?_) ?_
    · rw [h]
      split_ifs with hq
      · exact bot_le
      · exact EReal.coe_le_coe_iff.2 (le_key_of_rank (not_lt.1 hq))
    · refine le_trans (le_of_eq ?_) (le_fold_max Finset.univ (fun q : Fin 64 => v (ix2 q r)) (sel (f r) k) (Finset.mem_univ _))
      rw [h, rank_sel, if_neg (lt_irrefl _)]
  simp only [bits_bot, bits_top, bits_64, hmax, hs]
  have hmin : Finset.univ.fold min ⊤ (fun q : Fin 64 => if ((f r (sel (f r) k) : ℝ) : EReal) ≤ v (ix2 q r) then
      (((q.val : ℝ) : ℝ) : EReal) else ((64 : ℝ) : EReal)) = ((((sel (f r) k).val : ℝ) : ℝ) : EReal) := by
    refine le_antisymm ?_ (le_fold_min _ _ _ fun q _ => ?_)
    · refine le_trans (fold_min_le Finset.univ _ (sel (f r) k) (Finset.mem_univ _)) (le_of_eq ?_)
      rw [h, rank_sel, if_neg (lt_irrefl _), if_pos le_rfl]
    · split_ifs with hq
      · rw [h] at hq
        split_ifs at hq with hr
        · exact absurd hq (not_le.2 (EReal.bot_lt_coe _))
        · exact EReal.coe_le_coe_iff.2 (by exact_mod_cast sel_le_of_key (not_lt.1 hr) (EReal.coe_le_coe_iff.1 hq))
      · exact EReal.coe_le_coe_iff.2 (by exact_mod_cast (sel (f r) k).isLt.le)
  rw [hmin]
  rw [EReal.coe_eq_coe_iff, Nat.cast_inj, Fin.val_inj]

/-- The mark of round `k` is one at the position of rank `k` and zero elsewhere. -/
theorem mark_at {f : Fin 256 → Fin 64 → ℝ} {v : FVec Ideal S64x256 .f32} {k : Fin 64} (h : Left f v k.val) (p : Fin 64) (r : Fin 256) :
    k0_pay20 (F := Ideal) k0_pay9 v (ix2 p r) = (((if p = sel (f r) k then 1 else 0 : ℝ)) : EReal) := by
  pointwise [k0_pay20]
  rw [pick_at h]
  by_cases hp : p = sel (f r) k
  · simp only [hp, decide_true, if_true]
    show (((BitVec.setWidth 32 1#1).toInt : ℝ) : EReal) = _
    norm_num
  · simp only [hp, decide_false, if_false]
    show (((BitVec.setWidth 32 0#1).toInt : ℝ) : EReal) = _
    norm_num

/-- A round takes its own pick away and leaves the rest. -/
theorem left_succ {f : Fin 256 → Fin 64 → ℝ} {v : FVec Ideal S64x256 .f32} {k : Nat} (hk : k < 64) (h : Left f v k) :
    Left f (k0_pay21 (F := Ideal) k0_pay9 v) (k + 1) := by
  intro p r
  pointwise [k0_pay21]
  rw [pick_at (k := ⟨k, hk⟩) h, bits_bot, h]
  have e := rank_eq_iff (f r) p ⟨k, hk⟩
  by_cases hp : p = sel (f r) ⟨k, hk⟩
  · have := e.2 hp
    simp only [] at this
    rw [if_pos (by omega : rank (f r) p < k + 1)]
    simp [hp, Scalar.select]
  · have : rank (f r) p ≠ k := fun hh => hp (e.1 hh)
    have e2 : (rank (f r) p < k + 1) = (rank (f r) p < k) := propext ⟨fun _ => by omega, fun _ => by omega⟩
    simp only [e2]
    simp [hp, Scalar.select]

/-- After `k` rounds the first `k` ranks are gone. -/
theorem left_msk {f : Fin 256 → Fin 64 → ℝ} {v : FVec Ideal S64x256 .f32} (h : ∀ p r, v (ix2 p r) = ((f r p : ℝ) : EReal)) :
    ∀ k, k ≤ 64 → Left f (msk v k) k
  | 0, _ => fun p r => by rw [if_neg (Nat.not_lt_zero _)]; exact h p r
  | k + 1, hk => left_succ (by omega) (left_msk h k (by omega))

/-- The marks of round `k`. -/
def mark (v : FVec Ideal S64x256 .f32) (k : Nat) : FVec Ideal S64x256 .bf16 := k0_pay20 k0_pay9 (msk v k)

/-- The marks of round `k` from the logits. -/
theorem mark_val {f : Fin 256 → Fin 64 → ℝ} {v : FVec Ideal S64x256 .f32} (h : ∀ p r, v (ix2 p r) = ((f r p : ℝ) : EReal))
    (k : Nat) (hk : k < 64) (p : Fin 64) (r : Fin 256) :
    mark v k (ix2 p r) = (((if p = sel (f r) ⟨k, hk⟩ then 1 else 0 : ℝ)) : EReal) :=
  mark_at (k := ⟨k, hk⟩) (left_msk h k hk.le) p r

/-- The marks of round 0, as the kernel names them. -/
theorem o0_eq (v : FVec Ideal S64x256 .f32) : o0 v = mark v 0 := rfl
/-- The marks of round 1, as the kernel names them. -/
theorem o1_eq (v : FVec Ideal S64x256 .f32) : o1 v = mark v 1 := rfl
/-- The marks of round 2, as the kernel names them. -/
theorem o2_eq (v : FVec Ideal S64x256 .f32) : o2 v = mark v 2 := rfl
/-- The marks of round 3, as the kernel names them. -/
theorem o3_eq (v : FVec Ideal S64x256 .f32) : o3 v = mark v 3 := rfl
/-- The marks of round 4, as the kernel names them. -/
theorem o4_eq (v : FVec Ideal S64x256 .f32) : o4 v = mark v 4 := rfl
/-- The marks of round 5, as the kernel names them. -/
theorem o5_eq (v : FVec Ideal S64x256 .f32) : o5 v = mark v 5 := rfl
/-- The marks of round 6, as the kernel names them. -/
theorem o6_eq (v : FVec Ideal S64x256 .f32) : o6 v = mark v 6 := rfl
/-- The marks of round 7, as the kernel names them. -/
theorem o7_eq (v : FVec Ideal S64x256 .f32) : o7 v = mark v 7 := rfl

/-- The sum of the marks is one where the rank is below eight. -/
theorem aa_val {f : Fin 256 → Fin 64 → ℝ} {v : FVec Ideal S64x256 .f32} (h : ∀ p r, v (ix2 p r) = ((f r p : ℝ) : EReal))
    (p : Fin 64) (r : Fin 256) : aa v (ix2 p r) = (((if rank (f r) p < 8 then 1 else 0 : ℝ)) : EReal) := by
  have e : aa v (ix2 p r) = mark v 0 (ix2 p r) + mark v 1 (ix2 p r) + mark v 2 (ix2 p r) + mark v 3 (ix2 p r) + mark v 4 (ix2 p r)
      + mark v 5 (ix2 p r) + mark v 6 (ix2 p r) + mark v 7 (ix2 p r) := rfl
  rw [e]
  simp only [mark_val h _ (by omega : 0 < 64), mark_val h _ (by omega : 1 < 64), mark_val h _ (by omega : 2 < 64), mark_val h _ (by omega : 3 < 64),
    mark_val h _ (by omega : 4 < 64), mark_val h _ (by omega : 5 < 64), mark_val h _ (by omega : 6 < 64), mark_val h _ (by omega : 7 < 64),
    ← EReal.coe_add, ← rank_eq_iff]
  rw [EReal.coe_eq_coe_iff]
  by_cases hr : rank (f r) p < 8
  · rw [if_pos hr]
    generalize rank (f r) p = n at hr
    interval_cases n <;> norm_num
  · rw [if_neg hr]
    simp only [show ∀ j, j < 8 → (rank (f r) p = j) = False from fun j hj => eq_false (by omega), Nat.lt_add_one, Nat.reduceLT]
    norm_num

end Cert.KernelIdeal.Own

end
-- ==== Proof.KernelRow.lean ====
/- One batch row of the kernel, as a function of the stacked masks, the scaled products, the weights and the values: its read
   is the state recurrence's read. -/
module

public import proofs.«01_k».proof.Proof.KernelTerm
public import proofs.«01_k».proof.Proof.Coe
public import Idealize.ShloMosaic.Lib.Pointwise

@[expose] public section

set_option maxRecDepth 16384

noncomputable section

namespace Cert.KernelIdeal.Own

open Cert.KernelIdeal Cert.KernelIdeal.Gen Idealize.ShloMosaic Idealize.ShloMosaic.Pointwise Cert.Own

section Terms
variable {F : FTy → Type} [FloatOps F]
variable (m : FVec F S1024x128 .f32) (q : FVec F S128x128 .f32) (w : FVec F S128x32 .f32) (v : FVec F S128x512 .f32)

def s0 : FVec F S128x128 .f32 := extractStridedSlice S128x128 ![0, 0] m slices_S1024x128_o0_0_S128x128
def s1 : FVec F S128x128 .f32 := extractStridedSlice S128x128 ![128, 0] m slices_S1024x128_o128_0_S128x128
def s2 : FVec F S128x128 .f32 := extractStridedSlice S128x128 ![256, 0] m slices_S1024x128_o256_0_S128x128
def s3 : FVec F S128x128 .f32 := extractStridedSlice S128x128 ![384, 0] m slices_S1024x128_o384_0_S128x128
def s4 : FVec F S128x128 .f32 := extractStridedSlice S128x128 ![512, 0] m slices_S1024x128_o512_0_S128x128
def sc (u : FVec F S128x128 .f32) : FVec F S128x32 .f32 :=
  matmul dot_S128x128_S128x32_S128x32_1_0_0_1_n_n none (mulf u q) w (constant S128x32 .f32 0x00000000#32)
/-- The scores, eight blocks of 32 columns. -/
def rowS : FVec F S128x256 .f32 :=
  concatenate S128x256 1 [⟨S128x32, sc q w (s0 m)⟩, ⟨S128x32, sc q w (s1 m)⟩, ⟨S128x32, sc q w (s2 m)⟩, ⟨S128x32, sc q w (s3 m)⟩, ⟨S128x32, sc q w (s4 m)⟩,
    ⟨S128x32, sc q w (k0_pay65 m)⟩, ⟨S128x32, sc q w (k0_pay66 m)⟩, ⟨S128x32, sc q w (k0_pay67 m)⟩] concatenates_S128x32_S128x32_S128x32_S128x32_S128x32_S128x32_S128x32_S128x32_S128x256_d1
/-- The exponentials of a row's scores, the row's greatest subtracted first. -/
def expRow (z : FVec F S128x256 .f32) : FVec F S128x256 .f32 :=
  exp (subf z (broadcastTo S128x256 (shapeCast S128x1 (multiReduction .maximumf [1] S128 z 0xFF800000#32 reduces_S128x256_S128 (.inl rfl) rfl)
    shapeCasts_S128_S128x1) broadcasts_S128x1_S128x256))
def rowE : FVec F S128x256 .f32 := k0_pay68 w q m (s0 m) (s1 m) (s2 m) (s3 m) (s4 m)
def rowD : FVec F S128x1 .f32 := k0_pay69 w q m (s0 m) (s1 m) (s2 m) (s3 m) (s4 m)
def rowRead : FVec F S128x512 .f32 :=
  k0_pay55 k0_pay33 v w (s1 m) (s2 m) (s3 m) (s4 m) (k0_pay65 m) (k0_pay66 m) (k0_pay67 m) (rowE m q w) (rowD m q w)
    (mulf (s0 m) (matmul dot_S128x32_S128x32_S128x128_1_1_0_0_n_n none
      (extractStridedSlice S128x32 ![0, 0] (rowE m q w) slices_S128x256_o0_0_S128x32) w (constant S128x128 .f32 0x00000000#32)))
    (matmul dot_S128x32_S128x32_S128x128_1_1_0_0_n_n none
      (extractStridedSlice S128x32 ![0, 32] (rowE m q w) slices_S128x256_o0_32_S128x32) w (constant S128x128 .f32 0x00000000#32))

/-- The kernel's exponentials are those of the eight blocks of scores laid side by side. -/
theorem rowE_eq : rowE m q w = expRow (rowS m q w) := rfl
end Terms

section Values
variable {m : FVec Ideal S1024x128 .f32} {q : FVec Ideal S128x128 .f32} {w : FVec Ideal S128x32 .f32} {v : FVec Ideal S128x512 .f32}
variable {L : Fin 128 → Fin 64 → ℝ} {Q V : Fin 128 → Fin 512 → ℝ} {W : Fin 128 → Fin 32 → ℝ}
variable (hm : ∀ (k : Fin 8) (s t : Fin 128) (h : 128 * k.val + s.val < 1024), m (ix2 ⟨128 * k.val + s.val, h⟩ t) = ((hit L t (pick L s k) : ℝ) : EReal))
variable (hq : ∀ s t : Fin 128, q (ix2 s t) = ((qv Q V s t : ℝ) : EReal))
variable (hw : ∀ t c, w (ix2 t c) = ((W t c : ℝ) : EReal))
variable (hv : ∀ t d, v (ix2 t d) = ((V t d : ℝ) : EReal))
include hm hq hw

/-- One entry of block `k` of the scores, at the masks of that block. -/
theorem blk (s : Fin 128) (k k' : Fin 8) (c c' : Fin 32) (r : Fin 1024) (hr : r.val = 128 * k.val + s.val) (hk : k'.val = k.val)
    (hc : c'.val = c.val) :
    ∑ x, m (ix2 r x) * q (ix2 s x) * w (ix2 x c) = ((kscore L Q V W s k' c' : ℝ) : EReal) := by
  obtain rfl : k' = k := Fin.ext hk
  obtain rfl : c' = c := Fin.ext hc
  have hlt : 128 * k'.val + s.val < 1024 := by omega
  rw [show r = ⟨128 * k'.val + s.val, hlt⟩ from Fin.ext hr]
  simp only [hm, hq, hw, ← EReal.coe_mul, coe_sum, kscore]

/-- Column `l` of the scores is partition `l / 32`, state row `l % 32`. -/
theorem rowS_at (s : Fin 128) (l : Fin 256) :
    rowS m q w (ix2 s l) = ((kscore L Q V W s ⟨l.val / 32, by omega⟩ ⟨l.val % 32, by omega⟩ : ℝ) : EReal) := by
  pointwise [rowS, sc, s0, s1, s2, s3, s4, k0_pay65, k0_pay66, k0_pay67]
  split
  · exact blk hm hq hw s 0 _ _ _ _ (by simp) (by simp; omega) (by simp; omega)
  split
  · exact blk hm hq hw s 1 _ _ _ _ (by simp) (by simp; omega) (by simp; omega)
  split
  · exact blk hm hq hw s 2 _ _ _ _ (by simp) (by simp; omega) (by simp; omega)
  split
  · exact blk hm hq hw s 3 _ _ _ _ (by simp) (by simp; omega) (by simp; omega)
  split
  · exact blk hm hq hw s 4 _ _ _ _ (by simp) (by simp; omega) (by simp; omega)
  split
  · exact blk hm hq hw s 5 _ _ _ _ (by simp) (by simp; omega) (by simp; omega)
  split
  · exact blk hm hq hw s 6 _ _ _ _ (by simp) (by simp; omega) (by simp; omega)
  exact blk hm hq hw s 7 _ _ _ _ (by simp) (by simp; omega) (by simp; omega)

/-- The exponentials of a row, for some real number subtracted from all of its scores. -/
theorem rowE_at (s : Fin 128) : ∃ M : ℝ, ∀ l : Fin 256,
    rowE m q w (ix2 s l) = ((Real.exp (kscore L Q V W s ⟨l.val / 32, by omega⟩ ⟨l.val % 32, by omega⟩ - M) : ℝ) : EReal) := by
  obtain ⟨M, hM⟩ := fold_max_coe (n := 255) fun l => kscore L Q V W s ⟨l.val / 32, by omega⟩ ⟨l.val % 32, by omega⟩
  refine ⟨M, fun l => ?_⟩
  rw [rowE_eq]
  pointwise [expRow]
  simp only [rowS_at hm hq hw, bits_bot]
  rw [hM, ← EReal.coe_sub, Ideal.exp_coe]

omit hm hq hw in
/-- The causal mask at row `s` and column `t`. -/
theorem caus_at (s t : Fin 128) :
    FloatOps.sitofp (F := Ideal) .f32 (BitVec.setWidth 32 (IntOp.cmpi CmpIPredicate.sge (BitVec.ofNat 32 s.val) (BitVec.ofNat 32 t.val)))
      = ((caus s t : ℝ) : EReal) := by
  have h : ∀ p : Fin 128, (BitVec.ofNat 32 p.val).toInt = (p.val : Int) := fun p => by
    have hn : (BitVec.ofNat 32 p.val).toNat = p.val := by
      simp only [BitVec.toNat_ofNat]; omega
    rw [BitVec.toInt_eq_toNat_of_lt (by omega), hn]
  have e : IntOp.cmpi CmpIPredicate.sge (BitVec.ofNat 32 s.val) (BitVec.ofNat 32 t.val) = BitVec.ofBool (decide (t ≤ s)) := by
    simp only [IntOp.cmpi, BitVec.sle, h]
    congr 1
    simp
  rw [e]
  unfold caus
  by_cases hp : t ≤ s
  · simp only [hp, decide_true, if_true]
    show (((BitVec.setWidth 32 1#1).toInt : ℝ) : EReal) = _
    norm_num
  · simp only [hp, decide_false, if_false]
    show (((BitVec.setWidth 32 0#1).toInt : ℝ) : EReal) = _
    norm_num

/-- Block `k`'s part of the coefficient of step `t`, before the mask and the denominator. -/
theorem blk2 (s : Fin 128) {M : ℝ} (hE : ∀ l : Fin 256,
    rowE m q w (ix2 s l) = ((Real.exp (kscore L Q V W s ⟨l.val / 32, by omega⟩ ⟨l.val % 32, by omega⟩ - M) : ℝ) : EReal)) (t : Fin 128)
    (k : Fin 8) (r : Fin 1024) (hr : r.val = 128 * k.val + s.val) (o : Fin 32 → Fin 256) (ho : ∀ c, (o c).val = 32 * k.val + c.val) :
    m (ix2 r t) * ∑ c, rowE m q w (ix2 s (o c)) * w (ix2 t c)
      = ((hit L t (pick L s k) * ∑ c, Real.exp (kscore L Q V W s k c - M) * W t c : ℝ) : EReal) := by
  have hlt : 128 * k.val + s.val < 1024 := by omega
  rw [show r = ⟨128 * k.val + s.val, hlt⟩ from Fin.ext hr]
  have e : ∀ c, rowE m q w (ix2 s (o c)) = ((Real.exp (kscore L Q V W s k c - M) : ℝ) : EReal) := fun c => by
    have h1 : (⟨(o c).val / 32, by omega⟩ : Fin 8) = k := Fin.ext (by have := c.isLt; simp only [ho]; omega)
    have h2 : (⟨(o c).val % 32, by omega⟩ : Fin 32) = c := Fin.ext (by have := c.isLt; simp only [ho]; omega)
    rw [hE, h1, h2]
  simp only [e, hm, hw, ← EReal.coe_mul, coe_sum]

include hv in
/-- The row's read is the state recurrence's. -/
theorem rowRead_at (s : Fin 128) (d : Fin 512) : rowRead m q w v (ix2 s d) = ((readR L Q V W s d : ℝ) : EReal) := by
  obtain ⟨M, hE⟩ := rowE_at hm hq hw s
  have hD : rowD m q w (ix2 s 0) = ((1 / kden L Q V W M s : ℝ) : EReal) := by
    pointwise [rowD, k0_pay69]
    have e : ∀ l, k0_pay68 w q m (s0 m) (s1 m) (s2 m) (s3 m) (s4 m) (ix2 s l) = rowE m q w (ix2 s l) := fun l => rfl
    simp only [e, hE, coe_sum]
    rw [sum_flat fun k c => Real.exp (kscore L Q V W s k c - M), ← EReal.coe_one, div_coe_coe _ _ (sum_exp_pos _).ne']
    rfl
  pointwise [rowRead, k0_pay55, s0, s1, s2, s3, s4, k0_pay65, k0_pay66, k0_pay67, k0_pay33]
  rw [← kread_eq L Q V W M, kread, ← coe_sum]
  refine Finset.sum_congr rfl fun t _ => ?_
  rw [blk2 hm hq hw s hE t 0 _ (by simp) (fun c => ⟨c.val, by omega⟩) (fun c => by simp),
    blk2 hm hq hw s hE t 1 _ (by simp) (fun c => ⟨32 + c.val, by omega⟩) (fun c => by simp),
    blk2 hm hq hw s hE t 2 _ (by simp) (fun c => ⟨64 + c.val, by omega⟩) (fun c => by simp),
    blk2 hm hq hw s hE t 3 _ (by simp) (fun c => ⟨96 + c.val, by omega⟩) (fun c => by simp),
    blk2 hm hq hw s hE t 4 _ (by simp) (fun c => ⟨128 + c.val, by omega⟩) (fun c => by simp),
    blk2 hm hq hw s hE t 5 _ (by simp) (fun c => ⟨160 + c.val, by omega⟩) (fun c => by simp),
    blk2 hm hq hw s hE t 6 _ (by simp) (fun c => ⟨192 + c.val, by omega⟩) (fun c => by simp),
    blk2 hm hq hw s hE t 7 _ (by simp) (fun c => ⟨224 + c.val, by omega⟩) (fun c => by simp), caus_at, hD, hv]
  simp only [← EReal.coe_mul, ← EReal.coe_add]
  rw [kcoef, Fin.sum_univ_eight]

end Values

end Cert.KernelIdeal.Own

end
-- ==== Proof.KernelValue.lean ====
/- The kernel's output block at an index, its input entries real numbers: the output layer of the state recurrence's read. -/
module

public import proofs.«01_k».proof.Proof.KernelLin
public import proofs.«01_k».proof.Proof.KernelSel
public import proofs.«01_k».proof.Proof.KernelRow

@[expose] public section

set_option maxRecDepth 16384

noncomputable section

namespace Cert.KernelIdeal.Own

open Cert.KernelIdeal Cert.KernelIdeal.Gen Idealize.ShloMosaic Idealize.ShloMosaic.Pointwise Cert.Own

section Terms
variable {F : FTy → Type} [FloatOps F]

/-- The output layer over the two batch rows' reads. -/
def finV (a b : FVec F S128x512 .f32) (wo : FVec F S512x512 .f32) (bo : FVec F S1x512 .f32) : FVec F S2x128x512 .f32 :=
  shapeCast S2x128x512 (addf (matmul dot_S256x512_S512x512_S256x512_1_0_0_1_n_n none
      (concatenate S256x512 0 [⟨S128x512, a⟩, ⟨S128x512, b⟩] concatenates_S128x512_S128x512_S256x512_d0) wo (constant S256x512 .f32 0x00000000#32))
    (broadcastTo S256x512 (shapeCast S1x512 bo shapeCasts_S1x512_S1x512) broadcasts_S1x512_S256x512)) shapeCasts_S256x512_S2x128x512

/-- The first batch row is one row read. -/
theorem readA_eq (v7 : FVec F S64x256 .f32) (v13 v25 : FVec F S256x512 .f32) (v34 : FVec F S256x32 .f32) :
    readA v7 v13 v25 v34 = rowRead (mA v7) (k0_pay38 v13 v25) (k0_pay36 v34) (k0_pay35 v25) := rfl

/-- The result is the output layer over two row reads. -/
theorem outV_eq (v7 : FVec F S64x256 .f32) (v13 v25 : FVec F S256x512 .f32) (v34 : FVec F S256x32 .f32) (wo : FVec F S512x512 .f32)
    (bo : FVec F S1x512 .f32) :
    outV v7 v13 v25 v34 wo bo = finV (rowRead (mA v7) (k0_pay38 v13 v25) (k0_pay36 v34) (k0_pay35 v25))
      (rowRead (mB v7) (qB v13 v25) (k0_pay57 v34) (k0_pay56 v25)) wo bo := rfl

/-- The first batch row's columns of the summed marks. -/
theorem aA_eq (v7 : FVec F S64x256 .f32) : aA v7 = extractStridedSlice S64x128 ![0, 0] (aa v7) slices_S64x256_o0_0_S64x128 := rfl
end Terms

/-- A step's column in the first and in the second batch row. -/
def colA (s : Fin 128) : Fin 256 := ⟨s.val, by omega⟩
def colB (s : Fin 128) : Fin 256 := ⟨128 + s.val, by omega⟩

section Masks
variable {f : Fin 256 → Fin 64 → ℝ} {v : FVec Ideal S64x256 .f32} (h : ∀ p r, v (ix2 p r) = ((f r p : ℝ) : EReal))
include h

/-- A mark times the summed marks, over all of the partitions: whether step `t` also hits what step `s` picks `k`-th. -/
theorem mblk (g : Fin 128 → Fin 256) (s t : Fin 128) (k : Fin 8) :
    ∑ p, mark v k.val (ix2 p (g s)) * aa v (ix2 p (g t))
      = ((hit (fun s => f (g s)) t (pick (fun s => f (g s)) s k) : ℝ) : EReal) := by
  simp only [mark_val h k.val (by omega), aa_val h, ← EReal.coe_mul, coe_sum, hit, pick]
  rw [EReal.coe_eq_coe_iff, Finset.sum_eq_single (sel (f (g s)) ⟨k.val, by omega⟩)]
  · rw [if_pos rfl, one_mul]; rfl
  · intro p _ hp
    rw [if_neg hp, zero_mul]
  · intro hn; exact absurd (Finset.mem_univ _) hn

omit h in
/-- Marks of equal rounds at equal columns are equal. -/
theorem mk_eq {j k : Nat} (hj : j = k) {p : Fin 64} {c c' : Fin 256} (hc : c = c') : mark v j (ix2 p c) = mark v k (ix2 p c') := by
  rw [hj, hc]

/-- The masks of the first batch row. -/
theorem mA_at (k : Fin 8) (s t : Fin 128) (hlt : 128 * k.val + s.val < 1024) : mA v (ix2 ⟨128 * k.val + s.val, hlt⟩ t)
    = ((hit (fun s => f (colA s)) t (pick (fun s => f (colA s)) s k) : ℝ) : EReal) := by
  unfold mA
  rw [aA_eq, o0_eq, o1_eq, o2_eq, o3_eq, o4_eq, o5_eq, o6_eq, o7_eq]
  pointwise [k0_pay42, k0_pay39, k0_pay40, k0_pay41]
  refine Eq.trans (Finset.sum_congr rfl fun x _ => congrArg (· * aa v (ix2 x (colA t))) ?_) (mblk h colA s t k)
  split
  · exact mk_eq (by omega) (Fin.ext (by simp only [colA]; omega))
  split
  · exact mk_eq (by omega) (Fin.ext (by simp only [colA]; omega))
  split
  · exact mk_eq (by omega) (Fin.ext (by simp only [colA]; omega))
  split
  · exact mk_eq (by omega) (Fin.ext (by simp only [colA]; omega))
  split
  · exact mk_eq (by omega) (Fin.ext (by simp only [colA]; omega))
  split
  · exact mk_eq (by omega) (Fin.ext (by simp only [colA]; omega))
  split
  · exact mk_eq (by omega) (Fin.ext (by simp only [colA]; omega))
  exact mk_eq (by omega) (Fin.ext (by simp only [colA]; omega))

/-- The masks of the second batch row. -/
theorem mB_at (k : Fin 8) (s t : Fin 128) (hlt : 128 * k.val + s.val < 1024) : mB v (ix2 ⟨128 * k.val + s.val, hlt⟩ t)
    = ((hit (fun s => f (colB s)) t (pick (fun s => f (colB s)) s k) : ℝ) : EReal) := by
  unfold mB
  rw [o0_eq, o1_eq, o2_eq, o3_eq, o4_eq, o5_eq, o6_eq, o7_eq]
  pointwise [k0_pay59]
  refine Eq.trans (Finset.sum_congr rfl fun x _ => congrArg (· * aa v (ix2 x (colB t))) ?_) (mblk h colB s t k)
  split
  · exact mk_eq (by omega) (Fin.ext (by simp only [colB]; omega))
  split
  · exact mk_eq (by omega) (Fin.ext (by simp only [colB]; omega))
  split
  · exact mk_eq (by omega) (Fin.ext (by simp only [colB]; omega))
  split
  · exact mk_eq (by omega) (Fin.ext (by simp only [colB]; omega))
  split
  · exact mk_eq (by omega) (Fin.ext (by simp only [colB]; omega))
  split
  · exact mk_eq (by omega) (Fin.ext (by simp only [colB]; omega))
  split
  · exact mk_eq (by omega) (Fin.ext (by simp only [colB]; omega))
  exact mk_eq (by omega) (Fin.ext (by simp only [colB]; omega))

end Masks

section Out
variable {f : Fin 256 → Fin 64 → ℝ} {v7 : FVec Ideal S64x256 .f32} (h7 : ∀ p r, v7 (ix2 p r) = ((f r p : ℝ) : EReal))
variable {Q V : Fin 256 → Fin 512 → ℝ} {W : Fin 256 → Fin 32 → ℝ}
variable {v13 v25 : FVec Ideal S256x512 .f32} {v34 : FVec Ideal S256x32 .f32}
variable (h13 : ∀ r d, v13 (ix2 r d) = ((Q r d : ℝ) : EReal)) (h25 : ∀ r d, v25 (ix2 r d) = ((V r d : ℝ) : EReal))
variable (h34 : ∀ r c, v34 (ix2 r c) = ((W r c : ℝ) : EReal))
include h13 h25

/-- The scaled and masked products of queries and values, first batch row. -/
theorem qA_at (s t : Fin 128) : k0_pay38 v13 v25 (ix2 s t) = ((qv (fun s => Q (colA s)) (fun s => V (colA s)) s t : ℝ) : EReal) := by
  pointwise [k0_pay38, k0_pay34, k0_pay33, k0_pay35]
  have e : Ideal.div 1 (Scalar.sqrt (F := Ideal) (Ideal.ofBits .f32 0x44000000#32)) = _ := inv_root
  rw [e, caus_at]
  simp only [h13, h25, ← EReal.coe_mul, coe_sum]
  rfl

/-- The scaled and masked products of queries and values, second batch row. -/
theorem qB_at (s t : Fin 128) : qB v13 v25 (ix2 s t) = ((qv (fun s => Q (colB s)) (fun s => V (colB s)) s t : ℝ) : EReal) := by
  pointwise [qB, k0_pay58, k0_pay34, k0_pay33, k0_pay56]
  have e : Ideal.div 1 (Scalar.sqrt (F := Ideal) (Ideal.ofBits .f32 0x44000000#32)) = _ := inv_root
  rw [e, caus_at]
  simp only [h13, h25, ← EReal.coe_mul, coe_sum]
  rfl

include h7 h34

/-- The read of the first batch row is the recurrence's. -/
theorem rA_at (s : Fin 128) (d : Fin 512) : rowRead (mA v7) (k0_pay38 v13 v25) (k0_pay36 v34) (k0_pay35 v25) (ix2 s d)
    = ((readR (fun s => f (colA s)) (fun s => Q (colA s)) (fun s => V (colA s)) (fun s => W (colA s)) s d : ℝ) : EReal) :=
  rowRead_at (mA_at h7) (qA_at h13 h25) (fun t c => by pointwise [k0_pay36]; exact h34 _ _)
    (fun t c => by pointwise [k0_pay35]; exact h25 _ _) s d

/-- The read of the second batch row is the recurrence's. -/
theorem rB_at (s : Fin 128) (d : Fin 512) : rowRead (mB v7) (qB v13 v25) (k0_pay57 v34) (k0_pay56 v25) (ix2 s d)
    = ((readR (fun s => f (colB s)) (fun s => Q (colB s)) (fun s => V (colB s)) (fun s => W (colB s)) s d : ℝ) : EReal) :=
  rowRead_at (mB_at h7) (qB_at h13 h25) (fun t c => by pointwise [k0_pay57]; exact h34 _ _)
    (fun t c => by pointwise [k0_pay56]; exact h25 _ _) s d

end Out

/-- The read of batch row `b`, over the layers' outputs. -/
def readOf (L : Fin 2 → Fin 128 → Fin 64 → ℝ) (Q V : Fin 2 → Fin 128 → Fin 512 → ℝ) (W : Fin 2 → Fin 128 → Fin 32 → ℝ)
    (b : Fin 2) (s : Fin 128) (d : Fin 512) : ℝ := readR (L b) (Q b) (V b) (W b) s d

/-- A column of the first half belongs to the first batch row. -/
theorem bt_A (s : Fin 128) : bt (colA s) = 0 := Fin.ext (by simp [bt, colA])
/-- A column of the first half is its own step. -/
theorem st_A (s : Fin 128) : st (colA s) = s := Fin.ext (by simp only [st, colA]; omega)
/-- A column of the second half belongs to the second batch row. -/
theorem bt_B (s : Fin 128) : bt (colB s) = 1 := Fin.ext (by simp only [bt, colB]; show _ = 1; omega)
/-- A column of the second half is the step 128 below it. -/
theorem st_B (s : Fin 128) : st (colB s) = s := Fin.ext (by simp only [st, colB]; omega)

section Final
variable {L : Fin 2 → Fin 128 → Fin 64 → ℝ} {v7 : FVec Ideal S64x256 .f32} (h7 : ∀ p r, v7 (ix2 p r) = ((L (bt r) (st r) p : ℝ) : EReal))
variable {Q V : Fin 2 → Fin 128 → Fin 512 → ℝ} {W : Fin 2 → Fin 128 → Fin 32 → ℝ}
variable {v13 v25 : FVec Ideal S256x512 .f32} {v34 : FVec Ideal S256x32 .f32}
variable (h13 : ∀ r d, v13 (ix2 r d) = ((Q (bt r) (st r) d : ℝ) : EReal)) (h25 : ∀ r d, v25 (ix2 r d) = ((V (bt r) (st r) d : ℝ) : EReal))
variable (h34 : ∀ r c, v34 (ix2 r c) = ((W (bt r) (st r) c : ℝ) : EReal))
include h7 h13 h25 h34

/-- An entry of the result: the output layer of the recurrence's read. -/
theorem outV_at (wo : FVec Ideal S512x512 .f32) (bo : FVec Ideal S1x512 .f32) (b : Fin 2) (s : Fin 128) (e : Fin 512) :
    outV v7 v13 v25 v34 wo bo (ix3 b s e) = ∑ d, ((readOf L Q V W b s d : ℝ) : EReal) * wo (ix2 d e) + bo (ix2 0 e) := by
  rw [outV_eq]
  have hA := rA_at (f := fun r => L (bt r) (st r)) (Q := fun r => Q (bt r) (st r)) (V := fun r => V (bt r) (st r)) (W := fun r => W (bt r) (st r)) h7 h13 h25 h34
  have hB := rB_at (f := fun r => L (bt r) (st r)) (Q := fun r => Q (bt r) (st r)) (V := fun r => V (bt r) (st r)) (W := fun r => W (bt r) (st r)) h7 h13 h25 h34
  simp only [bt_A, st_A, bt_B, st_B] at hA hB
  generalize rowRead (mA v7) (k0_pay38 v13 v25) (k0_pay36 v34) (k0_pay35 v25) = ra at hA
  generalize rowRead (mB v7) (qB v13 v25) (k0_pay57 v34) (k0_pay56 v25) = rb at hB
  pointwise [finV]
  refine congrArg (· + bo (ix2 0 e)) (Finset.sum_congr rfl fun d _ => congrArg (· * wo (ix2 d e)) ?_)
  split
  · have hb : b = 0 := Fin.ext (by show _ = 0; omega)
    refine Eq.trans (congrArg ra (congrArg (ix2 · d) (Fin.ext ?_))) ((hA s d).trans ?_)
    · show b.val * 128 + s.val = s.val
      omega
    · rw [hb]; rfl
  · have hb : b = 1 := Fin.ext (by show _ = 1; omega)
    refine Eq.trans (congrArg rb (congrArg (ix2 · d) (Fin.ext ?_))) ((hB s d).trans ?_)
    · show b.val * 128 + s.val - 128 = s.val
      omega
    · rw [hb]; rfl
end Final

end Cert.KernelIdeal.Own

end
-- ==== Proof.RefOps.lean ====
/- The reference's indexed operations at these shapes: the gather and the scatter by pairs of index words, the positions of the eight greatest
   keys, and the slice at a loop's index. -/
module

public import proofs.«01_k».proof.Proof.Gen.ReferenceIdeal.Run
public import proofs.«01_k».proof.Proof.Select
public import proofs.«01_k».proof.Proof.Coe
public import Idealize.ShloMosaic.Lib.Pointwise
public import Idealize.ShloMosaic.Lib.Routing.OpsPair
public import Idealize.ShloMosaic.Lib.WordCmp

@[expose] public section

set_option maxRecDepth 16384

noncomputable section

namespace Cert.ReferenceIdeal.Own

open Cert.ReferenceIdeal Cert.ReferenceIdeal.Gen Idealize.ShloMosaic Idealize.ShloMosaic.StableHlo Idealize.ShloMosaic.Pointwise Cert.Own

/-- The gather's dimension numbers. -/
abbrev gD := gather_S2x64x32x512_S2x8x2_S2x8x32x512_23_01_n_n_01_2_1132512
/-- The scatter's dimension numbers. -/
abbrev sD := scatter_S2x64x32x512_S2x8x2_S2x8x32x512_23_01_01_2

/-- A word of a small number, read signed, is the number. -/
theorem toInt_small (n : ℕ) (h : n < 2 ^ 31) : (BitVec.ofNat 32 n).toInt = (n : Int) := by
  have hn : (BitVec.ofNat 32 n).toNat = n := by simp only [BitVec.toNat_ofNat]; omega
  rw [BitVec.toInt_eq_toNat_of_lt (by omega), hn]

/-- The gather reads the block of the batch and position its two words name. -/
theorem gather_at {α : Type} (x : S2x64x32x512.Idx → α) (idx : IVec S2x8x2 32) (b : Fin 2) (k : Fin 8) (c : Fin 32) (d : Fin 512)
    (p : Fin 64) (h0 : idx (ix3 b k 0) = BitVec.ofNat 32 b.val) (h1 : idx (ix3 b k 1) = BitVec.ofNat 32 p.val) :
    Host.gather gD x idx (ix4 b k c d) = x (ix4 b p c d) := by
  have i0 : gD.siIdx (ix4 b k c d) ⟨0, by decide⟩ = ix3 b k 0 := by
    funext a; fin_cases a <;> rfl
  have i1 : gD.siIdx (ix4 b k c d) ⟨1, by decide⟩ = ix3 b k 1 := by
    funext a; fin_cases a <;> rfl
  have s0 : gD.start (ix4 b k c d) idx 0 = b.val := by
    show min (idx (gD.siIdx (ix4 b k c d) ⟨0, _⟩)).toInt.toNat (2 - 1) = b.val
    rw [i0, h0, toInt_small _ (by omega)]; omega
  have s1 : gD.start (ix4 b k c d) idx 1 = p.val := by
    show min (idx (gD.siIdx (ix4 b k c d) ⟨1, _⟩)).toInt.toNat (64 - 1) = p.val
    rw [i1, h1, toInt_small _ (by omega)]; omega
  unfold Host.gather
  refine congrArg x (funext fun a => Fin.ext ?_)
  show gD.start (ix4 b k c d) idx a + gD.batchCoord (ix4 b k c d) a + gD.offCoord (ix4 b k c d) a = (ix4 b p c d a).val
  fin_cases a
  · show gD.start (ix4 b k c d) idx 0 + 0 + 0 = b.val
    rw [s0]; omega
  · show gD.start (ix4 b k c d) idx 1 + 0 + 0 = p.val
    rw [s1]; omega
  · show 0 + 0 + c.val = c.val
    omega
  · show 0 + 0 + d.val = d.val
    omega

/-- Where an update of the scatter lands: the batch and position its two words name, the update's own channel and feature. -/
theorem lands_iff (idx : IVec S2x8x2 32) (q : Fin 2 → Fin 8 → Fin 64) (h0 : ∀ b k, idx (ix3 b k 0) = BitVec.ofNat 32 b.val)
    (h1 : ∀ b k, idx (ix3 b k 1) = BitVec.ofNat 32 (q b k).val) (b b' : Fin 2) (k : Fin 8) (c c' : Fin 32) (d d' : Fin 512) (p : Fin 64) :
    sD.resultIdx? (ix4 b k c d) idx = some (ix4 b' p c' d') ↔ b = b' ∧ q b k = p ∧ c = c' ∧ d = d' := by
  have i0 : sD.siIdx (ix4 b k c d) ⟨0, by decide⟩ = ix3 b k 0 := by
    funext a; fin_cases a <;> rfl
  have i1 : sD.siIdx (ix4 b k c d) ⟨1, by decide⟩ = ix3 b k 1 := by
    funext a; fin_cases a <;> rfl
  have s0 : sD.start (ix4 b k c d) idx 0 = b.val := by
    show (idx (sD.siIdx (ix4 b k c d) ⟨0, _⟩)).toInt = b.val
    rw [i0, h0, toInt_small _ (by omega)]
  have s1 : sD.start (ix4 b k c d) idx 1 = (q b k).val := by
    show (idx (sD.siIdx (ix4 b k c d) ⟨1, _⟩)).toInt = (q b k).val
    rw [i1, h1, toInt_small _ (by omega)]
  have w0 : sD.window (ix4 b k c d) 0 = 0 := rfl
  have w1 : sD.window (ix4 b k c d) 1 = 0 := rfl
  have w2 : sD.window (ix4 b k c d) 2 = c.val := rfl
  have w3 : sD.window (ix4 b k c d) 3 = d.val := rfl
  have s2 : sD.start (ix4 b k c d) idx 2 = 0 := rfl
  have s3 : sD.start (ix4 b k c d) idx 3 = 0 := rfl
  rw [Routing.resultIdx?_eq_some]
  constructor
  · intro h
    have e0 : sD.start (ix4 b k c d) idx 0 + (sD.window (ix4 b k c d) 0 : Int) = b'.val := h 0
    have e1 : sD.start (ix4 b k c d) idx 1 + (sD.window (ix4 b k c d) 1 : Int) = p.val := h 1
    have e2 : sD.start (ix4 b k c d) idx 2 + (sD.window (ix4 b k c d) 2 : Int) = c'.val := h 2
    have e3 : sD.start (ix4 b k c d) idx 3 + (sD.window (ix4 b k c d) 3 : Int) = d'.val := h 3
    rw [s0, w0] at e0; rw [s1, w1] at e1; rw [s2, w2] at e2; rw [s3, w3] at e3
    exact ⟨Fin.ext (by omega), Fin.ext (by omega), Fin.ext (by omega), Fin.ext (by omega)⟩
  · rintro ⟨rfl, rfl, rfl, rfl⟩ a
    fin_cases a
    · show sD.start (ix4 b k c d) idx 0 + (sD.window (ix4 b k c d) 0 : Int) = b.val
      rw [s0, w0]; omega
    · show sD.start (ix4 b k c d) idx 1 + (sD.window (ix4 b k c d) 1 : Int) = (q b k).val
      rw [s1, w1]; omega
    · show sD.start (ix4 b k c d) idx 2 + (sD.window (ix4 b k c d) 2 : Int) = c.val
      rw [s2, w2]; omega
    · show sD.start (ix4 b k c d) idx 3 + (sD.window (ix4 b k c d) 3 : Int) = d.val
      rw [s3, w3]; omega

/-- Every index of the updates is its four coordinates. -/
theorem eta4 (j : S2x8x32x512.Idx) : ∃ (b : Fin 2) (k : Fin 8) (c : Fin 32) (d : Fin 512), j = ix4 b k c d := by
  refine ⟨j 0, j 1, j 2, j 3, ?_⟩
  funext a; fin_cases a <;> rfl

/-- The scatter adds the one update of a named position, -/
theorem scatter_hit (x : FVec Ideal S2x64x32x512 .f32) (idx : IVec S2x8x2 32) (u : FVec Ideal S2x8x32x512 .f32) (q : Fin 2 → Fin 8 → Fin 64)
    (hq : ∀ b, Function.Injective (q b)) (h0 : ∀ b k, idx (ix3 b k 0) = BitVec.ofNat 32 b.val)
    (h1 : ∀ b k, idx (ix3 b k 1) = BitVec.ofNat 32 (q b k).val) (b : Fin 2) (k : Fin 8) (c : Fin 32) (d : Fin 512) :
    Host.scatterAdd (F := Ideal) sD x idx u (ix4 b (q b k) c d) = x (ix4 b (q b k) c d) + u (ix4 b k c d) := by
  show x (ix4 b (q b k) c d) + ∑ j ∈ Finset.univ.filter (fun j => sD.resultIdx? j idx = some (ix4 b (q b k) c d)), u j = _
  congr 1
  rw [show (Finset.univ.filter fun j => sD.resultIdx? j idx = some (ix4 b (q b k) c d)) = {ix4 b k c d} from ?_, Finset.sum_singleton]
  ext j
  simp only [Finset.mem_filter, Finset.mem_univ, true_and, Finset.mem_singleton]
  obtain ⟨b', k', c', d', rfl⟩ := eta4 j
  rw [lands_iff idx q h0 h1]
  constructor
  · rintro ⟨rfl, e1, rfl, rfl⟩
    rw [hq _ e1]
  · intro e
    have e0 : b' = b := congrFun e 0
    have e1 : k' = k := congrFun e 1
    have e2 : c' = c := congrFun e 2
    have e3 : d' = d := congrFun e 3
    exact ⟨e0, by rw [e0, e1], e2, e3⟩

/-- and leaves every other position as it was. -/
theorem scatter_miss (x : FVec Ideal S2x64x32x512 .f32) (idx : IVec S2x8x2 32) (u : FVec Ideal S2x8x32x512 .f32) (q : Fin 2 → Fin 8 → Fin 64)
    (h0 : ∀ b k, idx (ix3 b k 0) = BitVec.ofNat 32 b.val)
    (h1 : ∀ b k, idx (ix3 b k 1) = BitVec.ofNat 32 (q b k).val) (b : Fin 2) (p : Fin 64) (hp : ∀ k, q b k ≠ p) (c : Fin 32) (d : Fin 512) :
    Host.scatterAdd (F := Ideal) sD x idx u (ix4 b p c d) = x (ix4 b p c d) := by
  show x (ix4 b p c d) + ∑ j ∈ Finset.univ.filter (fun j => sD.resultIdx? j idx = some (ix4 b p c d)), u j = _
  rw [show (Finset.univ.filter fun j => sD.resultIdx? j idx = some (ix4 b p c d)) = ∅ from ?_, Finset.sum_empty, add_zero]
  refine Finset.filter_eq_empty_iff.2 fun j _ h => ?_
  obtain ⟨b', k', c', d', rfl⟩ := eta4 j
  rw [lands_iff idx q h0 h1] at h
  obtain ⟨rfl, e1, -, -⟩ := h
  exact hp _ e1

/-- The words of the eight greatest keys of each row: the positions of ranks 0 to 7. -/
theorem topK_at (x : FVec Ideal S2x64 .f32) (L : Fin 2 → Fin 64 → ℝ) (hx : ∀ b p, x (ix2 b p) = ((L b p : ℝ) : EReal)) (b : Fin 2) (k : Fin 8) :
    (Host.topK S2x8 1 (FloatOps.cmpfTotal (F := Ideal) .gt) x sliceFits_S2x64_S2x8).2 (ix2 b k)
      = BitVec.ofNat 32 (sel (L b) ⟨k.val, by omega⟩).val := by
  have hs : ∀ i j : Fin 64, (FloatOps.cmpfTotal (F := Ideal) (φ := .f32) .gt (x (ix2 b i)) (x (ix2 b j)) == 1#1) = true ↔ L b j < L b i := by
    intro i j
    rw [hx, hx]
    rw [Ideal.cmpfTotal_def]
    unfold Ideal.cmp
    by_cases h : L b j < L b i
    · simp [CmpDirection.ordered, h]
    · simp [CmpDirection.ordered, h]
  have := sortedFrom_eq_sel (L b) (fun i j => FloatOps.cmpfTotal (F := Ideal) (φ := .f32) .gt (x (ix2 b i)) (x (ix2 b j)) == 1#1) hs ⟨k.val, by omega⟩
  rw [← this]
  unfold Host.topK
  pointwise
  have al : ∀ (q : Fin 64) (h : 1 < S2x64.rank) (i : Fin (S2x64.size ⟨1, h⟩)),
      Shape.Idx.along (s := S2x64) (ix2 b q) (⟨1, h⟩ : Fin S2x64.rank) i = ix2 b (i : Fin 64) := fun q h i => by
    funext a; fin_cases a <;> rfl
  unfold Host.sort2
  rw [dif_pos (by decide)]
  dsimp only
  simp only [al]
  rfl

/-- The slice at row `n` lies inside the array. -/
theorem fits_row (n : Fin 128) : S128x2x512.Slices ![n.val, 0, 0] S1x2x512 :=
  ⟨rfl, fun a => by
    fin_cases a
    · show n.val + 1 ≤ 128
      omega
    · exact Nat.le_refl 2
    · exact Nat.le_refl 512⟩

/-- The slice at row `n`, its unit axis dropped. -/
theorem row_at {α : Type} (x : S128x2x512.Idx → α) (st : Fin 3 → Int) (n : Fin 128) (h0 : st 0 = (n.val : Int)) (h1 : st 1 = 0) (h2 : st 2 = 0)
    (b : Fin 2) (d : Fin 512) :
    shapeCast S2x512 (Host.dynamicSlice S1x2x512 x st sliceFits_S128x2x512_S1x2x512) shapeCasts_S1x2x512_S2x512 (ix2 b d) = x (ix3 n b d) := by
  rw [WordCmp.dynamicSlice_eq_extract S1x2x512 x st _ ![n.val, 0, 0] (fits_row n) (by
    intro a
    fin_cases a
    · exact h0
    · exact h1
    · exact h2)]
  pointwise

/-- The update of row `n`, the unit axis added. -/
theorem upd_at {α : Type} (x : S128x2x512.Idx → α) (u : S2x512.Idx → α) (st : Fin 3 → Int) (n : Fin 128) (h0 : st 0 = (n.val : Int))
    (h1 : st 1 = 0) (h2 : st 2 = 0) (s : Fin 128) (b : Fin 2) (d : Fin 512) :
    Host.dynamicUpdateSlice x (broadcastInDim S1x2x512 ![1, 2] bcast_S2x512_S1x2x512_1_2 u) st updateFits_S128x2x512_S1x2x512 (ix3 s b d)
      = if s = n then u (ix2 b d) else x (ix3 s b d) := by
  rw [WordCmp.dynamicUpdateSlice_eq_update x _ st _ ![n.val, 0, 0] (fits_row n) (by
    intro a
    fin_cases a
    · exact h0
    · exact h1
    · exact h2)]
  pointwise
  by_cases g : s = n
  · rw [dif_pos (by omega), if_pos g]
  · rw [dif_neg (by omega), if_neg g]

/-- The pairs of index words: the batch and the position, each wrapped when negative. -/
def pairs (bat : IVec S2x1 32) (ind : IVec S2x8 32) : IVec S2x8x2 32 :=
  concatenate S2x8x2 2 [⟨S2x8x1, (broadcastInDim S2x8x1 ![0, 1] bcast_S2x8_S2x8x1_0_1 (broadcastInDim S2x8 ![0, 1] bcast_S2x1_S2x8_0_1 (select (cmpi .slt bat (broadcastInDim S2x1 ![] bcast_S_S2x1 (constantI S_ 32 0#32))) (addi bat (broadcastInDim S2x1 ![] bcast_S_S2x1 (constantI S_ 32 2#32))) bat)))⟩, ⟨S2x8x1, (broadcastInDim S2x8x1 ![0, 1] bcast_S2x8_S2x8x1_0_1 (select (cmpi .slt ind (broadcastInDim S2x8 ![] bcast_S_S2x8 (constantI S_ 32 0#32))) (addi ind (broadcastInDim S2x8 ![] bcast_S_S2x8 (constantI S_ 32 64#32))) ind))⟩] concatenates_S2x8x1_S2x8x1_S2x8x2_d2

/-- A number below 2^31 is not negative as a word. -/
theorem toNat_small (n : ℕ) (h : n < 2 ^ 31) : (BitVec.ofNat 32 n).toNat < 2 ^ (32 - 1) := by
  simp only [BitVec.toNat_ofNat]; omega

/-- The first word of a pair is the batch row. -/
theorem pairs_fst (bat : IVec S2x1 32) (ind : IVec S2x8 32) (hb : ∀ b : Fin 2, bat (ix2 b (0 : Fin 1)) = BitVec.ofNat 32 b.val) (b : Fin 2) (k : Fin 8) :
    pairs bat ind (ix3 b k 0) = BitVec.ofNat 32 b.val := by
  unfold pairs
  pointwise
  rw [show bat (ix2 b 0) = BitVec.ofNat 32 b.val from hb b]
  exact Routing.wrap_of_lt _ _ (toNat_small _ (by omega))

/-- The second word of a pair is the selected position. -/
theorem pairs_snd (bat : IVec S2x1 32) (ind : IVec S2x8 32) (b : Fin 2) (k : Fin 8) (p : Fin 64) (hi : ind (ix2 b k) = BitVec.ofNat 32 p.val) :
    pairs bat ind (ix3 b k 1) = BitVec.ofNat 32 p.val := by
  unfold pairs
  pointwise
  rw [hi]
  exact Routing.wrap_of_lt _ _ (toNat_small _ (by omega))

end Cert.ReferenceIdeal.Own

end
-- ==== Proof.RefStep.lean ====
/- One step of the reference's loop on real numbers: the state of the selected partitions and the row of the read. -/
module

public import proofs.«01_k».proof.Proof.RefOps
public import proofs.«01_k».proof.Proof.RealSpec
public import proofs.«01_k».proof.Proof.Consts
public import Idealize.ShloMosaic.Lib.Tactic.CleanTypes

@[expose] public section

set_option maxRecDepth 16384

noncomputable section

namespace Cert.ReferenceIdeal.Own

open Cert.ReferenceIdeal Cert.ReferenceIdeal.Gen Cert.ReferenceIdeal.Value Idealize.ShloMosaic Idealize.ShloMosaic.TcCoe
open Idealize.ShloMosaic.StableHlo Idealize.ShloMosaic.Pointwise Cert.Own

/-- The real numbers of the first nine arguments. -/
structure Nums where
  X : Fin 2 → Fin 128 → Fin 512 → ℝ
  ws : Fin 512 → Fin 64 → ℝ
  cs : Fin 64 → ℝ
  wq : Fin 512 → Fin 512 → ℝ
  cq : Fin 512 → ℝ
  wk : Fin 512 → Fin 32 → ℝ
  ck : Fin 32 → ℝ
  wv : Fin 512 → Fin 512 → ℝ
  cv : Fin 512 → ℝ

variable (m : Nums)

/-- The selection scores. -/
def Nums.L : Fin 2 → Fin 128 → Fin 64 → ℝ := fun b s => lin m.X m.ws m.cs b s
/-- The queries. -/
def Nums.Q : Fin 2 → Fin 128 → Fin 512 → ℝ := fun b s => lin m.X m.wq m.cq b s
/-- The values. -/
def Nums.V : Fin 2 → Fin 128 → Fin 512 → ℝ := fun b s => lin m.X m.wv m.cv b s
/-- The key weights. -/
def Nums.W : Fin 2 → Fin 128 → Fin 32 → ℝ := fun b s => soft (lin m.X m.wk m.ck b s)

/-- The buffers the loop reads and keeps hold the numbers `m`. -/
structure Holds (V0 : Valuation τ sig (Elt Ideal)) : Prop where
  x : ∀ (s : Fin 128) (b : Fin 2) (d : Fin 512), V0 (Proc.devRef .tc main_v5_0) (ix3 s b d) = ((m.X b s d : ℝ) : EReal)
  ws : ∀ (d : Fin 512) (p : Fin 64), V0 (Proc.devRef .tc main_v5_1) (ix2 d p) = ((m.ws d p : ℝ) : EReal)
  cs : ∀ p : Fin 64, V0 (Proc.devRef .tc main_v5_2) (ix1 p) = ((m.cs p : ℝ) : EReal)
  wq : ∀ (d p : Fin 512), V0 (Proc.devRef .tc main_v5_3) (ix2 d p) = ((m.wq d p : ℝ) : EReal)
  cq : ∀ p : Fin 512, V0 (Proc.devRef .tc main_v5_4) (ix1 p) = ((m.cq p : ℝ) : EReal)
  wk : ∀ (d : Fin 512) (p : Fin 32), V0 (Proc.devRef .tc main_v5_5) (ix2 d p) = ((m.wk d p : ℝ) : EReal)
  ck : ∀ p : Fin 32, V0 (Proc.devRef .tc main_v5_6) (ix1 p) = ((m.ck p : ℝ) : EReal)
  wv : ∀ (d p : Fin 512), V0 (Proc.devRef .tc main_v5_7) (ix2 d p) = ((m.wv d p : ℝ) : EReal)
  cv : ∀ p : Fin 512, V0 (Proc.devRef .tc main_v5_8) (ix1 p) = ((m.cv p : ℝ) : EReal)
  bat : ∀ b : Fin 2, V0 (Proc.devRef .tc main_v5_9) (ix2 b (0 : Fin 1)) = BitVec.ofNat 32 b.val

/-- The state after the steps before the `n`-th. -/
def upto (L : Fin 128 → Fin 64 → ℝ) (V : Fin 128 → Fin 512 → ℝ) (W : Fin 128 → Fin 32 → ℝ) (n : ℕ) (p : Fin 64) (c : Fin 32) (d : Fin 512) : ℝ :=
  ∑ t : Fin 128, (if t.val < n then 1 else 0) * (hit L t p * (W t c * V t d))

/-- Before the first step the state is zero. -/
theorem upto_zero (L : Fin 128 → Fin 64 → ℝ) (V : Fin 128 → Fin 512 → ℝ) (W : Fin 128 → Fin 32 → ℝ) (p : Fin 64) (c : Fin 32) (d : Fin 512) :
    upto L V W 0 p c d = 0 := by
  unfold upto
  simp

/-- A step adds its own product to the partitions that it hits. -/
theorem upto_succ (L : Fin 128 → Fin 64 → ℝ) (V : Fin 128 → Fin 512 → ℝ) (W : Fin 128 → Fin 32 → ℝ) (n : Fin 128) (p : Fin 64) (c : Fin 32)
    (d : Fin 512) : upto L V W (n.val + 1) p c d = upto L V W n.val p c d + hit L n p * (W n c * V n d) := by
  unfold upto
  have h : ∀ t : Fin 128, (if t.val < n.val + 1 then (1 : ℝ) else 0) = (if t.val < n.val then 1 else 0) + (if t = n then 1 else 0) := by
    intro t
    rcases lt_trichotomy t n with g | g | g
    · rw [if_pos (by omega), if_pos (by omega), if_neg (by omega)]; norm_num
    · rw [if_pos (by omega), if_neg (by omega), if_pos g]; norm_num
    · rw [if_neg (by omega), if_neg (by omega), if_neg (by omega)]; norm_num
  simp only [h, add_mul, Finset.sum_add_distrib]
  congr 1
  simp

/-- The state after step `n` is the causal sum. -/
theorem upto_state (L : Fin 128 → Fin 64 → ℝ) (V : Fin 128 → Fin 512 → ℝ) (W : Fin 128 → Fin 32 → ℝ) (n : Fin 128) (p : Fin 64) (c : Fin 32)
    (d : Fin 512) : upto L V W (n.val + 1) p c d = state L V W n p c d := by
  unfold upto state caus
  refine Finset.sum_congr rfl fun t _ => ?_
  congr 1
  exact if_congr (by rw [Fin.le_def]; omega) rfl rfl

/-- A linear layer's entry from real numbers. -/
theorem lin_coe {n : ℕ} (X : Fin 2 → Fin 128 → Fin 512 → ℝ) (w : Fin 512 → Fin n → ℝ) (c : Fin n → ℝ) (b : Fin 2) (s : Fin 128) (p : Fin n) :
    ∑ d, ((X b s d : ℝ) : EReal) * ((w d p : ℝ) : EReal) + ((c p : ℝ) : EReal) = ((lin X w c b s p : ℝ) : EReal) := by
  simp only [← EReal.coe_mul, coe_sum, ← EReal.coe_add, lin]

variable {m} {V0 : Valuation τ sig (Elt Ideal)} (h : Holds m V0) {n : Fin 128}
  (hn : V0 (Proc.devRef .tc main_v5_10) = fun _ => BitVec.ofNat 32 n.val)

include h hn in
/-- The step's row of the input. -/
theorem v11_at (b : Fin 2) (d : Fin 512) : res_main_while0b_v11 V0 (ix2 b d) = ((m.X b n d : ℝ) : EReal) := by
  unfold res_main_while0b_v11
  refine (row_at _ _ n ?_ rfl rfl b d).trans (h.x n b d)
  show (V0 (Proc.devRef .tc main_v5_10) (Shape.Idx.first h_S_)).toInt = _
  rw [hn]
  exact toInt_small _ (by omega)

include h hn in
/-- The step's logits. -/
theorem v15_at (b : Fin 2) (p : Fin 64) : res_main_while0b_v15 V0 (ix2 b p) = ((m.L b n p : ℝ) : EReal) := by
  unfold res_main_while0b_v15
  clean_types
  pointwise
  simp only [v11_at h hn, h.ws, h.cs]
  exact lin_coe ..

include h hn in
/-- The step's keys. -/
theorem v23_at (b : Fin 2) (p : Fin 32) : res_main_while0b_v23 V0 (ix2 b p) = ((lin m.X m.wk m.ck b n p : ℝ) : EReal) := by
  unfold res_main_while0b_v23
  clean_types
  pointwise
  simp only [v11_at h hn, h.wk, h.ck]
  exact lin_coe ..

include h hn in
/-- The step's weights, the softmax of its keys. -/
theorem w_at (b : Fin 2) (c : Fin 32) : Ideal.div (res_main_while0b_v34 V0 (ix2 b c)) (∑ x, res_main_while0b_v34 V0 (ix2 b x)) = ((m.W b n c : ℝ) : EReal) := by
  have e : ∀ c : Fin 32, res_main_while0b_v34 V0 (ix2 b c) = Ideal.exp (((lin m.X m.wk m.ck b n c : ℝ) : EReal)
      - Finset.univ.fold max ⊥ fun i => ((lin m.X m.wk m.ck b n i : ℝ) : EReal)) := by
    intro c
    unfold res_main_while0b_v34
    clean_types
    pointwise
    simp only [v23_at h hn, bits_bot, bot_sup_eq]
  simp only [e]
  exact soft_row (n := 31) (fun c => lin m.X m.wk m.ck b n c) c

include h hn in
/-- The selected positions of the step. -/
theorem indices_at (b : Fin 2) (k : Fin 8) : res_main_while0b_indices V0 (ix2 b k) = BitVec.ofNat 32 (pick (m.L b) n k).val := by
  unfold res_main_while0b_indices
  exact topK_at _ (fun b => m.L b n) (fun b p => v15_at h hn b p) b k

/-- A step picks eight different partitions. -/
theorem pick_inj (L : Fin 128 → Fin 64 → ℝ) (s : Fin 128) : Function.Injective (pick L s) := fun i j e => by
  have := congrArg Fin.val (sel_injective (L s) e)
  exact Fin.ext this

/-- A step hits each partition that it picks. -/
theorem hit_pick (L : Fin 128 → Fin 64 → ℝ) (s : Fin 128) (k : Fin 8) : hit L s (pick L s k) = 1 := by
  unfold hit pick
  rw [rank_sel]
  exact if_pos k.isLt

/-- A step hits no other partition. -/
theorem hit_other (L : Fin 128 → Fin 64 → ℝ) (s : Fin 128) (p : Fin 64) (hp : ∀ k, pick L s k ≠ p) : hit L s p = 0 := by
  unfold hit
  refine if_neg fun g => hp ⟨rank (L s) p, g⟩ ?_
  exact ((rank_eq_iff (L s) p ⟨rank (L s) p, by omega⟩).1 rfl).symm

variable (hS : ∀ (b : Fin 2) (p : Fin 64) (c : Fin 32) (d : Fin 512),
  V0 (Proc.devRef .tc main_v5_11) (ix4 b p c d) = ((upto (m.L b) (m.V b) (m.W b) n.val p c d : ℝ) : EReal))

include h hn hS in
/-- The state after the step. -/
theorem v59_at (b : Fin 2) (p : Fin 64) (c : Fin 32) (d : Fin 512) :
    res_main_while0b_v59 V0 (ix4 b p c d) = ((state (m.L b) (m.V b) (m.W b) n p c d : ℝ) : EReal) := by
  have h0 := pairs_fst (V0 (Proc.devRef .tc main_v5_9)) (res_main_while0b_indices V0) h.bat
  have h1 := fun b k => pairs_snd (V0 (Proc.devRef .tc main_v5_9)) (res_main_while0b_indices V0) b k _ (indices_at h hn b k)
  rw [← upto_state, upto_succ]
  unfold res_main_while0b_v59
  by_cases hp : ∃ k, pick (m.L b) n k = p
  · obtain ⟨k, rfl⟩ := hp
    refine (scatter_hit _ _ _ (fun b => pick (m.L b) n) (fun b => pick_inj _ _) h0 h1 b k c d).trans ?_
    rw [hit_pick, one_mul, EReal.coe_add]
    refine congrArg₂ (· + ·) (hS _ _ _ _) ?_
    clean_types
    pointwise
    rw [w_at h hn]
    simp only [v11_at h hn, h.wv, h.cv]
    rw [lin_coe, ← EReal.coe_mul]
    rfl
  · have hp' : ∀ k, pick (m.L b) n k ≠ p := fun k e => hp ⟨k, e⟩
    refine (scatter_miss _ _ _ (fun b => pick (m.L b) n) h0 h1 b p hp' c d).trans ?_
    rw [hit_other _ _ _ hp', zero_mul, add_zero]
    exact hS _ _ _ _

include h hn hS in
/-- The states of the step's selected partitions. -/
theorem v74_at (b : Fin 2) (k : Fin 8) (c : Fin 32) (d : Fin 512) :
    res_main_while0b_v74 V0 (ix4 b k c d) = ((state (m.L b) (m.V b) (m.W b) n (pick (m.L b) n k) c d : ℝ) : EReal) := by
  unfold res_main_while0b_v74
  refine (gather_at _ _ b k c d (pick (m.L b) n k) (pairs_fst _ _ h.bat b k) (pairs_snd _ _ b k _ (indices_at h hn b k))).trans ?_
  exact v59_at h hn hS _ _ _ _

include h hn hS in
/-- The scores of the step. -/
theorem v79_at (b : Fin 2) (l : Fin 256) : res_main_while0b_v79 V0 (ix2 b l)
    = ((score (m.L b) (m.Q b) (m.V b) (m.W b) n ⟨l.val / 32, by omega⟩ ⟨l.val % 32, by omega⟩ : ℝ) : EReal) := by
  unfold res_main_while0b_v79
  clean_types
  pointwise
  simp only [v11_at h hn, h.wq, h.cq, v74_at h hn hS, lin_coe]
  rw [bits_512, Ideal.sqrt_coe]
  simp only [← EReal.coe_mul, coe_sum]
  rw [if_neg (by norm_num), div_coe_coe _ _ (by positivity)]
  rfl

include h hn hS in
/-- The weights of the step. -/
theorem soft_at (b : Fin 2) (l : Fin 256) : Ideal.div (res_main_while0b_v86 V0 (ix2 b l)) (∑ x, res_main_while0b_v86 V0 (ix2 b x))
    = ((soft (fun l : Fin 256 => score (m.L b) (m.Q b) (m.V b) (m.W b) n ⟨l.val / 32, by omega⟩ ⟨l.val % 32, by omega⟩) l : ℝ) : EReal) := by
  have e : ∀ l : Fin 256, res_main_while0b_v86 V0 (ix2 b l) = Ideal.exp (((score (m.L b) (m.Q b) (m.V b) (m.W b) n ⟨l.val / 32, by omega⟩ ⟨l.val % 32, by omega⟩ : ℝ) : EReal)
      - Finset.univ.fold max ⊥ fun l : Fin 256 => ((score (m.L b) (m.Q b) (m.V b) (m.W b) n ⟨l.val / 32, by omega⟩ ⟨l.val % 32, by omega⟩ : ℝ) : EReal)) := by
    intro l
    unfold res_main_while0b_v86
    clean_types
    pointwise
    simp only [v79_at h hn hS, bits_bot, bot_sup_eq]
  simp only [e]
  exact soft_row (n := 255) (fun l : Fin 256 => score (m.L b) (m.Q b) (m.V b) (m.W b) n ⟨l.val / 32, by omega⟩ ⟨l.val % 32, by omega⟩) l

/-- The read of the step, a sum over the flat entries, is the read over the pairs. -/
theorem read_flat (L : Fin 128 → Fin 64 → ℝ) (Q V : Fin 128 → Fin 512 → ℝ) (W : Fin 128 → Fin 32 → ℝ) (s : Fin 128) (d : Fin 512) :
    ∑ c : Fin 32, ∑ k : Fin 8, soft (fun l : Fin 256 => score L Q V W s ⟨l.val / 32, by omega⟩ ⟨l.val % 32, by omega⟩) ⟨k.val * 32 + c.val, by omega⟩
      * state L V W s (pick L s k) c d = readR L Q V W s d := by
  unfold readR
  rw [Fintype.sum_prod_type, Finset.sum_comm]
  refine Finset.sum_congr rfl fun k _ => Finset.sum_congr rfl fun c _ => ?_
  congr 1
  unfold soft
  rw [sum_flat fun k c => Real.exp (score L Q V W s k c)]
  have h1 : (⟨(k.val * 32 + c.val) / 32, by omega⟩ : Fin 8) = k := Fin.ext (by show (k.val * 32 + c.val) / 32 = k.val; omega)
  have h2 : (⟨(k.val * 32 + c.val) % 32, by omega⟩ : Fin 32) = c := Fin.ext (by show (k.val * 32 + c.val) % 32 = c.val; omega)
  dsimp only
  rw [h1, h2]

include h hn hS in
/-- The step writes its row of the read and keeps the other rows. -/
theorem step_row (s : Fin 128) (b : Fin 2) (d : Fin 512) : step_main_v5_12 V0 (ix3 s b d)
    = if s = n then ((readR (m.L b) (m.Q b) (m.V b) (m.W b) n d : ℝ) : EReal) else V0 (Proc.devRef .tc main_v5_12) (ix3 s b d) := by
  unfold step_main_v5_12
  refine (upd_at _ _ _ n ?_ rfl rfl s b d).trans (if_congr Iff.rfl ?_ rfl)
  · show (V0 (Proc.devRef .tc main_v5_10) (Shape.Idx.first h_S_)).toInt = _
    rw [hn]
    exact toInt_small _ (by omega)
  · clean_types
    pointwise
    simp only [soft_at h hn hS, v74_at h hn hS, ← EReal.coe_mul, coe_sum]
    rw [read_flat]

end Cert.ReferenceIdeal.Own

end
-- ==== Proof.RefValue.lean ====
/- The reference's result on real numbers: the loop's steps in turn, then the output layer. -/
module

public import proofs.«01_k».proof.Proof.RefStep

@[expose] public section

set_option maxRecDepth 16384

noncomputable section

namespace Cert.ReferenceIdeal.Own

open Cert.ReferenceIdeal Cert.ReferenceIdeal.Gen Cert.ReferenceIdeal.Value Idealize.ShloMosaic Idealize.ShloMosaic.TcCoe
open Idealize.ShloMosaic.StableHlo Idealize.ShloMosaic.Pointwise Cert.Own

variable (m : Nums)

/-- The buffers before step `k`. -/
structure Before (k : ℕ) (V0 : Valuation τ sig (Elt Ideal)) : Prop where
  holds : Holds m V0
  ctr : V0 (Proc.devRef .tc main_v5_10) = fun _ => BitVec.ofNat 32 k
  st : ∀ (b : Fin 2) (p : Fin 64) (c : Fin 32) (d : Fin 512),
    V0 (Proc.devRef .tc main_v5_11) (ix4 b p c d) = ((upto (m.L b) (m.V b) (m.W b) k p c d : ℝ) : EReal)
  out : ∀ (s : Fin 128) (b : Fin 2) (d : Fin 512), s.val < k →
    V0 (Proc.devRef .tc main_v5_12) (ix3 s b d) = ((readR (m.L b) (m.Q b) (m.V b) (m.W b) s d : ℝ) : EReal)

variable {m}

/-- A step leaves the arguments as they were. -/
theorem holds_step {V0 : Valuation τ sig (Elt Ideal)} (h : Holds m V0) : Holds m (STEP V0) where
  x := by rw [STEP_main_v5_0]; exact h.x
  ws := by rw [STEP_main_v5_1]; exact h.ws
  cs := by rw [STEP_main_v5_2]; exact h.cs
  wq := by rw [STEP_main_v5_3]; exact h.wq
  cq := by rw [STEP_main_v5_4]; exact h.cq
  wk := by rw [STEP_main_v5_5]; exact h.wk
  ck := by rw [STEP_main_v5_6]; exact h.ck
  wv := by rw [STEP_main_v5_7]; exact h.wv
  cv := by rw [STEP_main_v5_8]; exact h.cv
  bat := by rw [STEP_main_v5_9]; exact h.bat

/-- A step takes what holds before step `k` to what holds before step `k + 1`. -/
theorem before_step {k : ℕ} (hk : k < 128) {V0 : Valuation τ sig (Elt Ideal)} (h : Before m k V0) : Before m (k + 1) (STEP V0) where
  holds := holds_step h.holds
  ctr := by
    rw [STEP_main_v5_10]
    unfold step_main_v5_10
    rw [h.ctr]
    funext i
    show BitVec.ofNat 32 k + 1#32 = BitVec.ofNat 32 (k + 1)
    rw [BitVec.ofNat_add]
  st := by
    rw [STEP_main_v5_11]
    intro b p c d
    exact (v59_at h.holds (n := ⟨k, hk⟩) h.ctr h.st b p c d).trans (by rw [← upto_state])
  out := by
    rw [STEP_main_v5_12]
    intro s b d hs
    refine (step_row h.holds (n := ⟨k, hk⟩) h.ctr h.st s b d).trans ?_
    by_cases e : s = ⟨k, hk⟩
    · rw [if_pos e, e]
    · rw [if_neg e]
      exact h.out s b d (by have : s.val ≠ k := fun g => e (Fin.ext g); omega)

/-- What holds before step `k`, after `k` steps. -/
theorem before_iter {V0 : Valuation τ sig (Elt Ideal)} (h : Before m 0 V0) : ∀ k, k ≤ 128 → Before m k (STEP^[k] V0)
  | 0, _ => h
  | k + 1, hk => by
    rw [Function.iterate_succ_apply']
    exact before_step (by omega) (before_iter h k (by omega))

variable (mm : (ℓ : Loc nD τ sig) → Buf (Elt Ideal) ℓ) (c : Dev nD)

/-- The loop starts with the input, its first two axes exchanged. -/
theorem entry_0 : entryContents preI mm c (Proc.devRef .tc main_v5_0)
    = transpose S128x2x512 [1, 0, 2] (mm ((c.tc : Thread nD τ).loc main_arg0)) transposes_S2x128x512_S128x2x512_1_0_2 := by
  simp only [entryContents, afterL_cons, afterL_nil]
  after_reads_simp
  rfl

/-- The loop starts with argument 1 as given. -/
theorem entry_1 : entryContents preI mm c (Proc.devRef .tc main_v5_1) = mm ((c.tc : Thread nD τ).loc main_arg1) := by
  simp only [entryContents, afterL_cons, afterL_nil]
  after_reads_simp
  rfl

/-- The loop starts with argument 2 as given. -/
theorem entry_2 : entryContents preI mm c (Proc.devRef .tc main_v5_2) = mm ((c.tc : Thread nD τ).loc main_arg2) := by
  simp only [entryContents, afterL_cons, afterL_nil]
  after_reads_simp
  rfl

/-- The loop starts with argument 3 as given. -/
theorem entry_3 : entryContents preI mm c (Proc.devRef .tc main_v5_3) = mm ((c.tc : Thread nD τ).loc main_arg3) := by
  simp only [entryContents, afterL_cons, afterL_nil]
  after_reads_simp
  rfl

/-- The loop starts with argument 4 as given. -/
theorem entry_4 : entryContents preI mm c (Proc.devRef .tc main_v5_4) = mm ((c.tc : Thread nD τ).loc main_arg4) := by
  simp only [entryContents, afterL_cons, afterL_nil]
  after_reads_simp
  rfl

/-- The loop starts with argument 5 as given. -/
theorem entry_5 : entryContents preI mm c (Proc.devRef .tc main_v5_5) = mm ((c.tc : Thread nD τ).loc main_arg5) := by
  simp only [entryContents, afterL_cons, afterL_nil]
  after_reads_simp
  rfl

/-- The loop starts with argument 6 as given. -/
theorem entry_6 : entryContents preI mm c (Proc.devRef .tc main_v5_6) = mm ((c.tc : Thread nD τ).loc main_arg6) := by
  simp only [entryContents, afterL_cons, afterL_nil]
  after_reads_simp
  rfl

/-- The loop starts with argument 7 as given. -/
theorem entry_7 : entryContents preI mm c (Proc.devRef .tc main_v5_7) = mm ((c.tc : Thread nD τ).loc main_arg7) := by
  simp only [entryContents, afterL_cons, afterL_nil]
  after_reads_simp
  rfl

/-- The loop starts with argument 8 as given. -/
theorem entry_8 : entryContents preI mm c (Proc.devRef .tc main_v5_8) = mm ((c.tc : Thread nD τ).loc main_arg8) := by
  simp only [entryContents, afterL_cons, afterL_nil]
  after_reads_simp
  rfl

/-- The loop starts with the batch rows, counted. -/
theorem entry_9 : entryContents preI mm c (Proc.devRef .tc main_v5_9) = broadcastInDim S2x1 ![0] bcast_S2_S2x1_0 (iotaInDim S2 32 0) := by
  simp only [entryContents, afterL_cons, afterL_nil]
  after_reads_simp
  rfl

/-- The loop starts with a zero state. -/
theorem entry_11 : entryContents preI mm c (Proc.devRef .tc main_v5_11)
    = broadcastInDim S2x64x32x512 ![] bcast_S_S2x64x32x512 (constant (F := Ideal) S_ .f32 0x00000000#32) := by
  simp only [entryContents, afterL_cons, afterL_nil]
  after_reads_simp
  rfl

/-- The arguments of the launch hold the numbers `m`. -/
structure Args (m : Nums) : Prop where
  x : ∀ (b : Fin 2) (s : Fin 128) (d : Fin 512), mm ((c.tc : Thread nD τ).loc main_arg0) (ix3 b s d) = ((m.X b s d : ℝ) : EReal)
  ws : ∀ (d : Fin 512) (p : Fin 64), mm ((c.tc : Thread nD τ).loc main_arg1) (ix2 d p) = ((m.ws d p : ℝ) : EReal)
  cs : ∀ p : Fin 64, mm ((c.tc : Thread nD τ).loc main_arg2) (ix1 p) = ((m.cs p : ℝ) : EReal)
  wq : ∀ (d p : Fin 512), mm ((c.tc : Thread nD τ).loc main_arg3) (ix2 d p) = ((m.wq d p : ℝ) : EReal)
  cq : ∀ p : Fin 512, mm ((c.tc : Thread nD τ).loc main_arg4) (ix1 p) = ((m.cq p : ℝ) : EReal)
  wk : ∀ (d : Fin 512) (p : Fin 32), mm ((c.tc : Thread nD τ).loc main_arg5) (ix2 d p) = ((m.wk d p : ℝ) : EReal)
  ck : ∀ p : Fin 32, mm ((c.tc : Thread nD τ).loc main_arg6) (ix1 p) = ((m.ck p : ℝ) : EReal)
  wv : ∀ (d p : Fin 512), mm ((c.tc : Thread nD τ).loc main_arg7) (ix2 d p) = ((m.wv d p : ℝ) : EReal)
  cv : ∀ p : Fin 512, mm ((c.tc : Thread nD τ).loc main_arg8) (ix1 p) = ((m.cv p : ℝ) : EReal)

variable {mm c}

/-- What holds before the first step, from the arguments. -/
theorem before_entry (h : Args mm c m) : Before m 0 (entryContents preI mm c) where
  holds :=
    { x := by
        rw [entry_0]
        intro s b d
        refine Eq.trans ?_ (h.x b s d)
        generalize mm ((c.tc : Thread nD τ).loc main_arg0) = x
        clean_types
        pointwise
      ws := by rw [entry_1]; exact h.ws
      cs := by rw [entry_2]; exact h.cs
      wq := by rw [entry_3]; exact h.wq
      cq := by rw [entry_4]; exact h.cq
      wk := by rw [entry_5]; exact h.wk
      ck := by rw [entry_6]; exact h.ck
      wv := by rw [entry_7]; exact h.wv
      cv := by rw [entry_8]; exact h.cv
      bat := by
        rw [entry_9]
        intro b
        clean_types
        pointwise }
  ctr := ctr_entry mm c
  st := by
    rw [entry_11]
    intro b p k d
    rw [upto_zero]
    clean_types
    pointwise
    try simp only [bits_zero, EReal.coe_zero]
  out := fun s b d hs => absurd hs (Nat.not_lt_zero _)

/-- The reference's result at an index. -/
theorem out_at (h : Args mm c m) (b : Fin 2) (s : Fin 128) (e : Fin 512) :
    out_main_v10 (STEP^[128] (entryContents preI mm c)) (ix3 b s e)
      = ∑ d, ((readR (m.L b) (m.Q b) (m.V b) (m.W b) s d : ℝ) : EReal) * mm ((c.tc : Thread nD τ).loc main_arg9) (ix2 d e)
        + mm ((c.tc : Thread nD τ).loc main_arg10) (ix1 e) := by
  have hb := before_iter (before_entry h) 128 (le_refl _)
  rw [← iter_main_arg9 mm c 128, ← iter_main_arg10 mm c 128]
  generalize STEP^[128] (entryContents preI mm c) = V0 at hb
  unfold out_main_v10
  clean_types
  pointwise
  simp only [fun d => hb.out s b d s.isLt]

end Cert.ReferenceIdeal.Own

end
-- ==== Proof.Agree.lean ====
/- The kernel and the reference end with one result, their first nine arguments' entries being real numbers. -/
module

public import proofs.«01_k».proof.Proof.KernelRun
public import proofs.«01_k».proof.Proof.KernelValue
public import proofs.«01_k».proof.Proof.RefValue
public import proofs.«01_k».proof.Proof.Finite

@[expose] public section

set_option maxRecDepth 16384

noncomputable section

namespace Cert.Own

open Cert.KernelIdeal Cert.KernelIdeal.Gen Cert.KernelIdeal.Own Cert.ReferenceIdeal.Own Idealize.ShloMosaic Idealize.ShloMosaic.TcCoe
open Idealize.ShloMosaic.Pointwise

/-- The kernel's result at an index. -/
theorem ker_at (m : Nums) (a0 : FVec Ideal S2x128x512 .f32) (a1 : FVec Ideal S512x64 .f32) (a2 : FVec Ideal S64 .f32)
    (a3 : FVec Ideal S512x512 .f32) (a4 : FVec Ideal S512 .f32) (a5 : FVec Ideal S512x32 .f32) (a6 : FVec Ideal S32 .f32)
    (a7 : FVec Ideal S512x512 .f32) (a8 : FVec Ideal S512 .f32) (a9 : FVec Ideal S512x512 .f32) (a10 : FVec Ideal S512 .f32)
    (h0 : ∀ b s d, a0 (ix3 b s d) = ((m.X b s d : ℝ) : EReal)) (h1 : ∀ d p, a1 (ix2 d p) = ((m.ws d p : ℝ) : EReal))
    (h2 : ∀ p, a2 (ix1 p) = ((m.cs p : ℝ) : EReal)) (h3 : ∀ d p, a3 (ix2 d p) = ((m.wq d p : ℝ) : EReal))
    (h4 : ∀ p, a4 (ix1 p) = ((m.cq p : ℝ) : EReal)) (h5 : ∀ d p, a5 (ix2 d p) = ((m.wk d p : ℝ) : EReal))
    (h6 : ∀ p, a6 (ix1 p) = ((m.ck p : ℝ) : EReal)) (h7 : ∀ d p, a7 (ix2 d p) = ((m.wv d p : ℝ) : EReal))
    (h8 : ∀ p, a8 (ix1 p) = ((m.cv p : ℝ) : EReal)) (b : Fin 2) (s : Fin 128) (e : Fin 512) :
    kerOut (F := Ideal) a0 a1 (shapeCast S64x1 a2 shapeCasts_S64_S64x1) a3 (shapeCast S1x512 a4 shapeCasts_S512_S1x512) a5
        (shapeCast S1x32 a6 shapeCasts_S32_S1x32) a7 (shapeCast S1x512 a8 shapeCasts_S512_S1x512) (shapeCast S1x512 a10 shapeCasts_S512_S1x512)
        a9 (ix3 b s e)
      = ∑ d, ((readR (m.L b) (m.Q b) (m.V b) (m.W b) s d : ℝ) : EReal) * a9 (ix2 d e) + a10 (ix1 e) := by
  have c2 : ∀ p : Fin 64, shapeCast S64x1 a2 shapeCasts_S64_S64x1 (ix2 p 0) = ((m.cs p : ℝ) : EReal) := fun p => by
    pointwise; exact h2 p
  have row : ∀ (a : FVec Ideal S512 .f32) (p : Fin 512), shapeCast S1x512 a shapeCasts_S512_S1x512 (ix2 0 p) = a (ix1 p) := fun a p => by
    pointwise
  have c6 : ∀ p : Fin 32, shapeCast S1x32 a6 shapeCasts_S32_S1x32 (ix2 0 p) = ((m.ck p : ℝ) : EReal) := fun p => by
    pointwise; exact h6 p
  unfold kerOut
  rw [outV_at (L := m.L) (Q := m.Q) (V := m.V) (W := m.W) (pay3_at h0 h1 c2)
    (pay4_at h0 h3 fun p => (row a4 p).trans (h4 p)) (pay5_at h0 h7 fun p => (row a8 p).trans (h8 p)) (pay8_at h0 h5 c6) a9 _ b s e, row]
  rfl

/-- Every index of the result is its three coordinates. -/
theorem eta3 (i : S2x128x512.Idx) : ∃ (b : Fin 2) (s : Fin 128) (e : Fin 512), i = ix3 b s e := by
  refine ⟨i 0, i 1, i 2, ?_⟩
  funext a; fin_cases a <;> rfl

/-- One device's results agree. -/
theorem agree [Cert.Pre_finite.Facts] (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hp : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) = fun _ => 1#1)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10)) :
    (Cert.ReferenceIdeal.Value.out_main_v10 (Cert.ReferenceIdeal.Value.STEP^[128]
      (StableHlo.entryContents Cert.ReferenceIdeal.Value.preI m' c)) : FVec Ideal S2x128x512 .f32) = result m c := by
  obtain ⟨⟨r0, h0⟩, ⟨r1, h1⟩, ⟨r2, h2⟩, ⟨r3, h3⟩, ⟨r4, h4⟩, ⟨r5, h5⟩, ⟨r6, h6⟩, ⟨r7, h7⟩, ⟨r8, h8⟩⟩ := Cert.Pre_finite.Own.finite _ _ _ _ _ _ _ _ _ _ _ hp
  let N : Nums :=
    { X := fun b s d => r0 (ix3 b s d), ws := fun d p => r1 (ix2 d p), cs := fun p => r2 (ix1 p), wq := fun d p => r3 (ix2 d p),
      cq := fun p => r4 (ix1 p), wk := fun d p => r5 (ix2 d p), ck := fun p => r6 (ix1 p), wv := fun d p => r7 (ix2 d p), cv := fun p => r8 (ix1 p) }
  have hA : Args m' c N :=
    { x := by rw [e0]; exact fun b s d => h0 _
      ws := by rw [e1]; exact fun d p => h1 _
      cs := by rw [e2]; exact fun p => h2 _
      wq := by rw [e3]; exact fun d p => h3 _
      cq := by rw [e4]; exact fun p => h4 _
      wk := by rw [e5]; exact fun d p => h5 _
      ck := by rw [e6]; exact fun p => h6 _
      wv := by rw [e7]; exact fun d p => h7 _
      cv := by rw [e8]; exact fun p => h8 _ }
  funext i
  obtain ⟨b, s, e, rfl⟩ := eta3 i
  refine (out_at hA b s e).trans ?_
  rw [e9, e10]
  exact (ker_at N _ _ _ _ _ _ _ _ _ _ _ (fun b s d => h0 _) (fun d p => h1 _) (fun p => h2 _) (fun d p => h3 _) (fun p => h4 _) (fun d p => h5 _)
    (fun p => h6 _) (fun d p => h7 _) (fun p => h8 _) b s e).symm

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Own.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Own.frame m ρ,
    fun m ρ _ => Cert.ReferenceIdeal.Own.frame m ρ,
    trivial,
    fun m g m' g' hp he => ⟨fun c => Cert.KernelIdeal.Own.result m c,
      (θ_run _ _ _).mono (fun _ h c => ⟨(h c).1.trans (Cert.KernelIdeal.Own.final m c), (h c).2⟩) (Cert.KernelIdeal.Value.run_blocks m g),
      (θ_run _ _ _).mono (fun _ h c => ⟨(h c).1.trans (by
        obtain ⟨e0, e1, e2, e3, e4, e5, e6, e7, e8, e9, e10⟩ := he c
        exact @Cert.Own.agree Cert.Pre_finite.Own.facts m m' c (hp c) e0 e1 e2 e3 e4 e5 e6 e7 e8 e9 e10), (h c).2⟩) (Cert.ReferenceIdeal.Value.run m' g')⟩⟩

end Cert.Proof

end
